-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_rows_finite [hPre_rows_finite : Cert.Pre_rows_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows_finite [hPre_rows_finite : Cert.Pre_rows_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_rows_finite [hKernel2Ideal : Cert.Kernel2Ideal.Facts] [hPre_rows_finite : Cert.Pre_rows_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rows_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_rows_finite [hReference2Ideal : Cert.Reference2Ideal.Facts] [hPre_rows_finite : Cert.Pre_rows_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_rows_finite [hKernel2Ideal : Cert.Kernel2Ideal.Facts] [hReference2Ideal : Cert.Reference2Ideal.Facts] [hPre_rows_finite : Cert.Pre_rows_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rows_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)) (v2 : (c : Dev Cert.Kernel2Ideal.nD) → Buf (Elt Ideal) ((c.tc : Thread Cert.Kernel2Ideal.nD Cert.Kernel2Ideal.τ).loc Cert.Kernel2Ideal.main_v35_2)) (v3 : (c : Dev Cert.Kernel2Ideal.nD) → Buf (Elt Ideal) ((c.tc : Thread Cert.Kernel2Ideal.nD Cert.Kernel2Ideal.τ).loc Cert.Kernel2Ideal.main_v35_3)) (v4 : (c : Dev Cert.Kernel2Ideal.nD) → Buf (Elt Ideal) ((c.tc : Thread Cert.Kernel2Ideal.nD Cert.Kernel2Ideal.τ).loc Cert.Kernel2Ideal.main_v35_4)) (v5 : (c : Dev Cert.Kernel2Ideal.nD) → Buf (Elt Ideal) ((c.tc : Thread Cert.Kernel2Ideal.nD Cert.Kernel2Ideal.τ).loc Cert.Kernel2Ideal.main_v35_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_v35_2) = v2 c
          ∧ r.2.mem ((c.tc : Thread Cert.Kernel2Ideal.nD Cert.Kernel2Ideal.τ).loc Cert.Kernel2Ideal.main_v35_3) = v3 c
          ∧ r.2.mem ((c.tc : Thread Cert.Kernel2Ideal.nD Cert.Kernel2Ideal.τ).loc Cert.Kernel2Ideal.main_v35_4) = v4 c
          ∧ r.2.mem ((c.tc : Thread Cert.Kernel2Ideal.nD Cert.Kernel2Ideal.τ).loc Cert.Kernel2Ideal.main_v35_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v72) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_v74) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_scores_finite : Cert.Pre_scores_finite.Facts) (hPre_rows_finite : Cert.Pre_rows_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Kernel2Ideal_pre_rows_finite (hKernel2Ideal := hKernel2Ideal) (hPre_rows_finite := hPre_rows_finite)
    ∧ quiescent_Reference2Ideal (hReference2Ideal := hReference2Ideal)
    ∧ quiescent_Reference2Ideal_pre_rows_finite (hReference2Ideal := hReference2Ideal) (hPre_rows_finite := hPre_rows_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal_pre_rows_finite (hKernel2Ideal := hKernel2Ideal) (hReference2Ideal := hReference2Ideal) (hPre_rows_finite := hPre_rows_finite)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Pre_rows_finite.lean ====
abbrev S8x8192x1024 : Shape := ⟨3, ![8, 8192, 1024]⟩
abbrev S8x1x1024 : Shape := ⟨3, ![8, 1, 1024]⟩
abbrev S1024x3968 : Shape := ⟨2, ![1024, 3968]⟩
abbrev S1280 : Shape := ⟨1, ![1280]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S1024x256 : Shape := ⟨2, ![1024, 256]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x1x1024 : S_.BroadcastsInDim S8x1x1024 (![] : Fin 0 → Fin S8x1x1024.rank)
  reducesTo_S8x1x1024_S_d0_1_2 : S8x1x1024.ReducesTo [0, 1, 2] S_
  slices_S1024x3968_S1024x256_0_256 : S1024x3968.Slices ![0, 256] S1024x256
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v13 : IVec S_ 1) (main_v15 : FVec F S1024x256 .f32) (main_v16 : FVec F S1024x256 .f32) : IVec S_ 1 :=
  let main_v17 : IVec S1024x256 1 := cmpf .olt main_v15 main_v16
  let main_c_5 : IVec S_ 1 := constantI S_ 1 1#1
  let main_v18 : IVec S_ 1 := (fun x v => Host.reduce IntOp.andi x v reducesTo_S1024x256_S_d0_1 h_S_) main_v17 main_c_5
  let main_v19 : IVec S_ 1 := andi main_v13 main_v18
  main_v19

def fn {F : FTy → Type} [FloatOps F] (main_arg0 : FVec F S8x8192x1024 .f32) (main_arg1 : FVec F S8x1x1024 .f32) (main_arg2 : FVec F S8x1x1024 .f32) (main_arg3 : FVec F S1024x3968 .f32) (main_arg4 : FVec F S1280 .f32) (main_arg5 : FVec F S256 .f32) (main_arg6 : FVec F S256 .f32) (main_arg7 : FVec F S4x128x128 .f32) (main_arg8 : FVec F S4x128 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x1x1024 .f32 := Host.absf main_arg1
  let main_cst_0 : FVec F S_ .f32 := constant S_ .f32 0x7F800000#32
  let main_v5 : FVec F S8x1x1024 .f32 := broadcastInDim S8x1x1024 ![] bcast_S_S8x1x1024 main_cst_0
  let main_v6 : IVec S8x1x1024 1 := cmpf .olt main_v4 main_v5
  let main_c_1 : IVec S_ 1 := constantI S_ 1 1#1
  let main_v7 : IVec S_ 1 := (fun x v => Host.reduce IntOp.andi x v reducesTo_S8x1x1024_S_d0_1_2 h_S_) main_v6 main_c_1
  let main_v8 : IVec S_ 1 := andi main_v3 main_v7
  let main_v9 : FVec F S8x1x1024 .f32 := Host.absf main_arg2
  let main_cst_2 : FVec F S_ .f32 := constant S_ .f32 0x7F800000#32
  let main_v10 : FVec F S8x1x1024 .f32 := broadcastInDim S8x1x1024 ![] bcast_S_S8x1x1024 main_cst_2
  let main_v11 : IVec S8x1x1024 1 := cmpf .olt main_v9 main_v10
  let main_c_3 : IVec S_ 1 := constantI S_ 1 1#1
  let main_v12 : IVec S_ 1 := (fun x v => Host.reduce IntOp.andi x v reducesTo_S8x1x1024_S_d0_1_2 h_S_) main_v11 main_c_3
  let main_v13 : IVec S_ 1 := andi main_v8 main_v12
  let main_v14 : FVec F S1024x256 .f32 := (extractStridedSlice S1024x256 ![0, 256] · slices_S1024x3968_S1024x256_0_256) main_arg3
  let main_v15 : FVec F S1024x256 .f32 := Host.absf main_v14
  let main_cst_4 : FVec F S_ .f32 := constant S_ .f32 0x7F800000#32
  let main_v16 : FVec F S1024x256 .f32 := broadcastInDim S1024x256 ![] bcast_S_S1024x256 main_cst_4
  fn_part1 (F := F) main_v13 main_v15 main_v16
-- ==== Pre_scores_finite.lean ====
abbrev S8x8192x384 : Shape := ⟨3, ![8, 8192, 384]⟩
abbrev S8x8192x768 : Shape := ⟨3, ![8, 8192, 768]⟩
abbrev S6x513 : Shape := ⟨2, ![6, 513]⟩
abbrev S8x8192x256 : Shape := ⟨3, ![8, 8192, 256]⟩
abbrev S8x8192x1024 : Shape := ⟨3, ![8, 8192, 1024]⟩
abbrev S8x1x1024 : Shape := ⟨3, ![8, 1, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S8x8192x384 : S_.BroadcastsInDim S8x8192x384 (![] : Fin 0 → Fin S8x8192x384.rank)
  reducesTo_S8x8192x384_S_d0_1_2 : S8x8192x384.ReducesTo [0, 1, 2] S_
  h_S_ : 0 < S_.numel
  slices_S8x8192x768_S8x8192x384_0_0_0 : S8x8192x768.Slices ![0, 0, 0] S8x8192x384
  bcast_S_S6x513 : S_.BroadcastsInDim S6x513 (![] : Fin 0 → Fin S6x513.rank)
  reducesTo_S6x513_S_d0_1 : S6x513.ReducesTo [0, 1] S_

variable [Facts]

def fn {F : FTy → Type} [FloatOps F] (main_arg0 : FVec F S8x8192x384 .bf16) (main_arg1 : FVec F S8x8192x768 .bf16) (main_arg2 : FVec F S8x8192x384 .f32) (main_arg3 : FVec F S6x513 .f32) (main_arg4 : FVec F S8x8192x256 .bf16) (main_arg5 : FVec F S8x8192x384 .bf16) (main_arg6 : FVec F S8x8192x1024 .f32) (main_arg7 : FVec F S8x1x1024 .f32) (main_arg8 : FVec F S1024x1024 .f32) (main_arg9 : FVec F S1024 .f32) (main_arg10 : FVec F S1024 .f32) : IVec S_ 1 :=
  let main_v0 : FVec F S8x8192x384 .f32 := (extf .f32 · bitsLt_bf16_f32) main_arg0
  let main_v1 : FVec F S8x8192x384 .f32 := Host.absf main_v0
  let main_cst : FVec F S_ .f32 := constant S_ .f32 0x7F800000#32
  let main_v2 : FVec F S8x8192x384 .f32 := broadcastInDim S8x8192x384 ![] bcast_S_S8x8192x384 main_cst
  let main_v3 : IVec S8x8192x384 1 := cmpf .olt main_v1 main_v2
  let main_c : IVec S_ 1 := constantI S_ 1 1#1
  let main_v4 : IVec S_ 1 := (fun x v => Host.reduce IntOp.andi x v reducesTo_S8x8192x384_S_d0_1_2 h_S_) main_v3 main_c
  let main_v5 : FVec F S8x8192x384 .bf16 := (extractStridedSlice S8x8192x384 ![0, 0, 0] · slices_S8x8192x768_S8x8192x384_0_0_0) main_arg1
  let main_v6 : FVec F S8x8192x384 .f32 := (extf .f32 · bitsLt_bf16_f32) main_v5
  let main_v7 : FVec F S8x8192x384 .f32 := Host.absf main_v6
  let main_cst_0 : FVec F S_ .f32 := constant S_ .f32 0x7F800000#32
  let main_v8 : FVec F S8x8192x384 .f32 := broadcastInDim S8x8192x384 ![] bcast_S_S8x8192x384 main_cst_0
  let main_v9 : IVec S8x8192x384 1 := cmpf .olt main_v7 main_v8
  let main_c_1 : IVec S_ 1 := constantI S_ 1 1#1
  let main_v10 : IVec S_ 1 := (fun x v => Host.reduce IntOp.andi x v reducesTo_S8x8192x384_S_d0_1_2 h_S_) main_v9 main_c_1
  let main_v11 : IVec S_ 1 := andi main_v4 main_v10
  let main_v12 : FVec F S6x513 .f32 := Host.absf main_arg3
  let main_cst_2 : FVec F S_ .f32 := constant S_ .f32 0x7F800000#32
  let main_v13 : FVec F S6x513 .f32 := broadcastInDim S6x513 ![] bcast_S_S6x513 main_cst_2
  let main_v14 : IVec S6x513 1 := cmpf .olt main_v12 main_v13
  let main_c_3 : IVec S_ 1 := constantI S_ 1 1#1
  let main_v15 : IVec S_ 1 := (fun x v => Host.reduce IntOp.andi x v reducesTo_S6x513_S_d0_1 h_S_) main_v14 main_c_3
  let main_v16 : IVec S_ 1 := andi main_v11 main_v15
  main_v16
-- ==== Kernel.lean ====
abbrev S8x8192x384 : Shape := ⟨3, ![8, 8192, 384]⟩
abbrev S8x8192x768 : Shape := ⟨3, ![8, 8192, 768]⟩
abbrev S6x513 : Shape := ⟨2, ![6, 513]⟩
abbrev S8x8192x256 : Shape := ⟨3, ![8, 8192, 256]⟩
abbrev S8x8192x1024 : Shape := ⟨3, ![8, 8192, 1024]⟩
abbrev S8x1x1024 : Shape := ⟨3, ![8, 1, 1024]⟩
abbrev S1024x1024 : Shape := ⟨2, ![1024, 1024]⟩
abbrev S1024 : Shape := ⟨1, ![1024]⟩
abbrev S640 : Shape := ⟨1, ![640]⟩
abbrev S_ : Shape := ⟨0, ![]⟩
abbrev S640x1 : Shape := ⟨2, ![640, 1]⟩
abbrev S6x640 : Shape := ⟨2, ![6, 640]⟩
abbrev S1x1024 : Shape := ⟨2, ![1, 1024]⟩
abbrev S1x1024x384 : Shape := ⟨3, ![1, 1024, 384]⟩
abbrev S1x512x768 : Shape := ⟨3, ![1, 512, 768]⟩
abbrev S1x1024x768 : Shape := ⟨3, ![1, 1024, 768]⟩
abbrev S1x1024x256 : Shape := ⟨3, ![1, 1024, 256]⟩
abbrev S1x1024x1024 : Shape := ⟨3, ![1, 1024, 1024]⟩
abbrev S1x1x1024 : Shape := ⟨3, ![1, 1, 1024]⟩
abbrev S1536x768 : Shape := ⟨2, ![1536, 768]⟩
abbrev S9x3x128x576 : Shape := ⟨4, ![9, 3, 128, 576]⟩
abbrev S1024x384 : Shape := ⟨2, ![1024, 384]⟩
abbrev S64x576 : Shape := ⟨2, ![64, 576]⟩
abbrev S1x640 : Shape := ⟨2, ![1, 640]⟩
abbrev S64x640 : Shape := ⟨2, ![64, 640]⟩
abbrev S64x384 : Shape := ⟨2, ![64, 384]⟩
abbrev S64x64 : Shape := ⟨2, ![64, 64]⟩
abbrev S64x1024 : Shape := ⟨2, ![64, 1024]⟩
abbrev S1x1x64x576 : Shape := ⟨4, ![1, 1, 64, 576]⟩
abbrev S512x768 : Shape := ⟨2, ![512, 768]⟩
abbrev S1024x768 : Shape := ⟨2, ![1024, 768]⟩
abbrev S64x128 : Shape := ⟨2, ![64, 128]⟩
abbrev S1x64x128 : Shape := ⟨3, ![1, 64, 128]⟩
abbrev S128x128 : Shape := ⟨2, ![128, 128]⟩
abbrev S576x128 : Shape := ⟨2, ![576, 128]⟩
abbrev S128x576 : Shape := ⟨2, ![128, 576]⟩
abbrev S1x1x128x576 : Shape := ⟨4, ![1, 1, 128, 576]⟩
abbrev S128 : Shape := ⟨1, ![128]⟩
abbrev S128x1 : Shape := ⟨2, ![128, 1]⟩
abbrev S1024x256 : Shape := ⟨2, ![1024, 256]⟩
abbrev S1024x1 : Shape := ⟨2, ![1024, 1]⟩

abbrev nBuf : Space → Nat
  | .hbm => 23
  | .vmem => 25
  | .smem => 0
  | _ => 0

abbrev bufTy : (tb : Table) → Fin (tcTables nBuf tb) → BufTy
  | .hbm, ⟨0, _⟩ => ⟨S8x8192x384, .bf16⟩
  | .hbm, ⟨1, _⟩ => ⟨S8x8192x768, .bf16⟩
  | .hbm, ⟨2, _⟩ => ⟨S8x8192x384, .f32⟩
  | .hbm, ⟨3, _⟩ => ⟨S6x513, .f32⟩
  | .hbm, ⟨4, _⟩ => ⟨S8x8192x256, .bf16⟩
  | .hbm, ⟨5, _⟩ => ⟨S8x8192x384, .bf16⟩
  | .hbm, ⟨6, _⟩ => ⟨S8x8192x1024, .f32⟩
  | .hbm, ⟨7, _⟩ => ⟨S8x1x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S640, .i32⟩
  | .hbm, ⟨12, _⟩ => ⟨S640, .i1⟩
  | .hbm, ⟨13, _⟩ => ⟨S_, .i32⟩
  | .hbm, ⟨14, _⟩ => ⟨S640, .i32⟩
  | .hbm, ⟨15, _⟩ => ⟨S640, .i32⟩
  | .hbm, ⟨16, _⟩ => ⟨S640, .i32⟩
  | .hbm, ⟨17, _⟩ => ⟨S640x1, .i32⟩
  | .hbm, ⟨18, _⟩ => ⟨S6x640, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S8x8192x1024, .f32⟩
  | .local _ .vmem, ⟨0, _⟩ => ⟨S1x1024x384, .bf16⟩
  | .local _ .vmem, ⟨1, _⟩ => ⟨S1x1024x384, .bf16⟩
  | .local _ .vmem, ⟨2, _⟩ => ⟨S1x512x768, .bf16⟩
  | .local _ .vmem, ⟨3, _⟩ => ⟨S1x512x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x384, .f32⟩
  | .local _ .vmem, ⟨7, _⟩ => ⟨S1x1024x384, .f32⟩
  | .local _ .vmem, ⟨8, _⟩ => ⟨S6x640, .f32⟩
  | .local _ .vmem, ⟨9, _⟩ => ⟨S1x1024x256, .bf16⟩
  | .local _ .vmem, ⟨10, _⟩ => ⟨S1x1024x256, .bf16⟩
  | .local _ .vmem, ⟨11, _⟩ => ⟨S1x1024x384, .bf16⟩
  | .local _ .vmem, ⟨12, _⟩ => ⟨S1x1024x384, .bf16⟩
  | .local _ .vmem, ⟨13, _⟩ => ⟨S1x1024x1024, .f32⟩
  | .local _ .vmem, ⟨14, _⟩ => ⟨S1x1024x1024, .f32⟩
  | .local _ .vmem, ⟨15, _⟩ => ⟨S1x1x1024, .f32⟩
  | .local _ .vmem, ⟨16, _⟩ => ⟨S1x1x1024, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1536x768, .bf16⟩
  | .local _ .vmem, ⟨23, _⟩ => ⟨S9x3x128x576, .f32⟩
  | .local _ .vmem, ⟨24, _⟩ => ⟨S1024x384, .bf16⟩
  | _, _ => ⟨S8x8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 8], ![false, false]⟩

def k0_off1 (i : grid0.Coords) (c1_i32 : BitVec 32) : Fin 4 → Nat :=
  let arg1 : BitVec 32 := BitVec.ofNat 32 (i 1).val
  let c0_i32_10 : BitVec 32 := 0#32
  let v15 : BitVec 1 := Scalar.cmpi .eq arg1 c0_i32_10
  let c0_i32_11 : BitVec 32 := 0#32
  let v19 : BitVec 32 := Scalar.select v15 c1_i32 c0_i32_11
  let v30 : Index := Scalar.indexCast v19
  let c0_19 : Index := 0#32
  let c0_20 : Index := 0#32
  let c0_21 : Index := 0#32
  ![v30.toNat, 0, 0, 0]
def k0_off2 (i : grid0.Coords) (c1_i32 : BitVec 32) : Fin 4 → Nat :=
  let arg1 : BitVec 32 := BitVec.ofNat 32 (i 1).val
  let c0_i32_10 : BitVec 32 := 0#32
  let v15 : BitVec 1 := Scalar.cmpi .eq arg1 c0_i32_10
  let c0_i32_11 : BitVec 32 := 0#32
  let v19 : BitVec 32 := Scalar.select v15 c1_i32 c0_i32_11
  let v44 : Index := Scalar.indexCast v19
  let c1 : Index := 1#32
  let c0_29 : Index := 0#32
  let c0_30 : Index := 0#32
  ![v44.toNat, 1, 0, 0]
def k0_off3 (i : grid0.Coords) (c1_i32 : BitVec 32) : Fin 4 → Nat :=
  let arg1 : BitVec 32 := BitVec.ofNat 32 (i 1).val
  let c0_i32_10 : BitVec 32 := 0#32
  let v15 : BitVec 1 := Scalar.cmpi .eq arg1 c0_i32_10
  let c0_i32_11 : BitVec 32 := 0#32
  let v19 : BitVec 32 := Scalar.select v15 c1_i32 c0_i32_11
  let v58 : Index := Scalar.indexCast v19
  let c2 : Index := 2#32
  let c0_38 : Index := 0#32
  let c0_39 : Index := 0#32
  ![v58.toNat, 2, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S6x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8x8192x384 : Shape := ⟨3, ![8, 8192, 384]⟩
abbrev S8x8192x768 : Shape := ⟨3, ![8, 8192, 768]⟩
abbrev S6x513 : Shape := ⟨2, ![6, 513]⟩
abbrev S8x8192x256 : Shape := ⟨3, ![8, 8192, 256]⟩
abbrev S8x8192x1024 : Shape := ⟨3, ![8, 8192, 1024]⟩
abbrev S8x1x1024 : Shape := ⟨3, ![8, 1, 1024]⟩
abbrev S1024x1024 : Shape := ⟨2, ![1024, 1024]⟩
abbrev S1024 : Shape := ⟨1, ![1024]⟩
abbrev S8x128x64x6x64 : Shape := ⟨5, ![8, 128, 64, 6, 64]⟩
abbrev S_ : Shape := ⟨0, ![]⟩
abbrev S8x8704x384 : Shape := ⟨3, ![8, 8704, 384]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S6x64x576 : Shape := ⟨3, ![6, 64, 576]⟩
abbrev S128 : Shape := ⟨1, ![128]⟩
abbrev S128x1 : Shape := ⟨2, ![128, 1]⟩
abbrev S128x576 : Shape := ⟨2, ![128, 576]⟩
abbrev S128x576x1 : Shape := ⟨3, ![128, 576, 1]⟩
abbrev S8x128x576x384 : Shape := ⟨4, ![8, 128, 576, 384]⟩
abbrev S8x128x576x6x64 : Shape := ⟨5, ![8, 128, 576, 6, 64]⟩
abbrev S8x128x6x64x576 : Shape := ⟨5, ![8, 128, 6, 64, 576]⟩
abbrev S1x1x6x64x576 : Shape := ⟨5, ![1, 1, 6, 64, 576]⟩
abbrev S1x128x1x1x576 : Shape := ⟨5, ![1, 128, 1, 1, 576]⟩
abbrev S8x128x6x64 : Shape := ⟨4, ![8, 128, 6, 64]⟩
abbrev S8x128x6x64x1 : Shape := ⟨5, ![8, 128, 6, 64, 1]⟩
abbrev S8x128x6x64x64 : Shape := ⟨5, ![8, 128, 6, 64, 64]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 158
  | .vmem => 0
  | .smem => 0
  | _ => 0

abbrev hbmTy0_0 (i : Nat) : BufTy := match i % 128 with
  | 0 => ⟨S8x8192x384, .bf16⟩
  | 1 => ⟨S8x8192x768, .bf16⟩
  | 2 => ⟨S8x8192x384, .f32⟩
  | 3 => ⟨S6x513, .f32⟩
  | 4 => ⟨S8x8192x256, .bf16⟩
  | 5 => ⟨S8x8192x384, .bf16⟩
  | 6 => ⟨S8x8192x1024, .f32⟩
  | 7 => ⟨S8x1x1024, .f32⟩
  | 8 => ⟨S1024x1024, .f32⟩
  | 9 => ⟨S1024, .f32⟩
  | 10 => ⟨S1024, .f32⟩
  | 11 => ⟨S8x8192x384, .f32⟩
  | 12 => ⟨S8x8192x768, .f32⟩
  | 13 => ⟨S8x8192x256, .f32⟩
  | 14 => ⟨S8x8192x384, .f32⟩
  | 15 => ⟨S8x8192x384, .f32⟩
  | 16 => ⟨S8x8192x384, .f32⟩
  | 17 => ⟨S8x128x64x6x64, .f32⟩
  | 18 => ⟨S_, .i32⟩
  | 19 => ⟨S_, .f32⟩
  | 20 => ⟨S8x8704x384, .f32⟩
  | 21 => ⟨S_, .i32⟩
  | 22 => ⟨S_, .f32⟩
  | 23 => ⟨S8x8704x384, .f32⟩
  | 24 => ⟨S64, .i32⟩
  | 25 => ⟨S64x1, .i32⟩
  | 26 => ⟨S_, .i32⟩
  | 27 => ⟨S64x1, .i32⟩
  | 28 => ⟨S64x1, .i32⟩
  | 29 => ⟨S576, .i32⟩
  | 30 => ⟨S1x576, .i32⟩
  | 31 => ⟨S64x576, .i32⟩
  | 32 => ⟨S64x576, .i32⟩
  | 33 => ⟨S64x576, .i32⟩
  | 34 => ⟨S_, .i32⟩
  | 35 => ⟨S_, .i32⟩
  | 36 => ⟨S_, .i32⟩
  | 37 => ⟨S64x576, .i32⟩
  | 38 => ⟨S64x576, .i32⟩
  | 39 => ⟨S_, .i32⟩
  | 40 => ⟨S64x576, .i32⟩
  | 41 => ⟨S64x576, .i32⟩
  | 42 => ⟨S_, .i32⟩
  | 43 => ⟨S64x576, .i32⟩
  | 44 => ⟨S64x576, .i32⟩
  | 45 => ⟨S_, .i32⟩
  | 46 => ⟨S64x576, .i32⟩
  | 47 => ⟨S64x576, .i1⟩
  | 48 => ⟨S_, .i32⟩
  | 49 => ⟨S64x576, .i32⟩
  | 50 => ⟨S64x576, .i32⟩
  | 51 => ⟨S64x576, .i32⟩
  | 52 => ⟨S64x576x1, .i32⟩
  | 53 => ⟨S6x64x576, .f32⟩
  | 54 => ⟨S128, .i32⟩
  | 55 => ⟨S128x1, .i32⟩
  | 56 => ⟨S_, .i32⟩
  | 57 => ⟨S128x1, .i32⟩
  | 58 => ⟨S128x1, .i32⟩
  | 59 => ⟨S576, .i32⟩
  | 60 => ⟨S1x576, .i32⟩
  | 61 => ⟨S128x576, .i32⟩
  | 62 => ⟨S128x576, .i32⟩
  | 63 => ⟨S128x576, .i32⟩
  | 64 => ⟨S_, .i32⟩
  | 65 => ⟨S128x576, .i32⟩
  | 66 => ⟨S128x576, .i1⟩
  | 67 => ⟨S_, .i32⟩
  | 68 => ⟨S128x576, .i32⟩
  | 69 => ⟨S128x576, .i32⟩
  | 70 => ⟨S128x576, .i32⟩
  | 71 => ⟨S128x576x1, .i32⟩
  | 72 => ⟨S8x128x576x384, .f32⟩
  | 73 => ⟨S8x128x576x6x64, .f32⟩
  | 74 => ⟨S_, .i32⟩
  | 75 => ⟨S128x576, .i32⟩
  | 76 => ⟨S128x576, .i1⟩
  | 77 => ⟨S_, .i32⟩
  | 78 => ⟨S128x576, .i32⟩
  | 79 => ⟨S128x576, .i32⟩
  | 80 => ⟨S128x576, .i32⟩
  | 81 => ⟨S128x576x1, .i32⟩
  | 82 => ⟨S8x128x576x384, .f32⟩
  | 83 => ⟨S8x128x576x6x64, .f32⟩
  | 84 => ⟨S8x128x6x64x576, .f32⟩
  | 85 => ⟨S_, .f32⟩
  | 86 => ⟨S8x128x6x64x576, .f32⟩
  | 87 => ⟨S8x128x6x64x576, .f32⟩
  | 88 => ⟨S1x1x6x64x576, .f32⟩
  | 89 => ⟨S8x128x6x64x576, .f32⟩
  | 90 => ⟨S8x128x6x64x576, .f32⟩
  | 91 => ⟨S_, .i32⟩
  | 92 => ⟨S128x576, .i32⟩
  | 93 => ⟨S128x576, .i32⟩
  | 94 => ⟨S_, .i32⟩
  | 95 => ⟨S128x576, .i32⟩
  | 96 => ⟨S128x576, .i1⟩
  | 97 => ⟨S1x128x1x1x576, .i1⟩
  | 98 => ⟨S_, .f32⟩
  | 99 => ⟨S_, .f32⟩
  | 100 => ⟨S8x128x6x64x576, .i1⟩
  | 101 => ⟨S8x128x6x64x576, .f32⟩
  | 102 => ⟨S8x128x6x64x576, .f32⟩
  | 103 => ⟨S_, .f32⟩
  | 104 => ⟨S8x128x6x64, .f32⟩
  | 105 => ⟨S_, .f32⟩
  | 106 => ⟨S8x128x6x64, .f32⟩
  | 107 => ⟨S8x128x6x64, .f32⟩
  | 108 => ⟨S8x128x6x64x1, .f32⟩
  | 109 => ⟨S8x128x6x64x576, .f32⟩
  | 110 => ⟨S8x128x6x64x576, .f32⟩
  | 111 => ⟨S8x128x6x64x576, .f32⟩
  | 112 => ⟨S_, .f32⟩
  | 113 => ⟨S8x128x6x64, .f32⟩
  | 114 => ⟨S8x128x6x64x1, .f32⟩
  | 115 => ⟨S8x128x6x64x576, .f32⟩
  | 116 => ⟨S8x128x6x64x576, .f32⟩
  | 117 => ⟨S8x128x6x64x64, .f32⟩
  | 118 => ⟨S8x128x64x6x64, .f32⟩
  | 119 => ⟨S8x8192x384, .f32⟩
  | 120 => ⟨S8x8192x384, .f32⟩
  | 121 => ⟨S8x8192x1024, .f32⟩
  | 122 => ⟨S8x8192x1024, .f32⟩
  | 123 => ⟨S_, .f32⟩
  | 124 => ⟨S8x8192x1024, .f32⟩
  | 125 => ⟨S8x8192x1024, .f32⟩
  | 126 => ⟨S8x8192x1024, .f32⟩
  | 127 => ⟨S8x8192x1024, .f32⟩
  | _ => ⟨S8x8192x384, .bf16⟩

abbrev hbmTy0_1 (i : Nat) : BufTy := match i % 128 with
  | 0 => ⟨S8x8192x1024, .f32⟩
  | 1 => ⟨S_, .f32⟩
  | 2 => ⟨S8x8192, .f32⟩
  | 3 => ⟨S8x8192x1, .f32⟩
  | 4 => ⟨S_, .f32⟩
  | 5 => ⟨S8x8192x1, .f32⟩
  | 6 => ⟨S8x8192x1, .f32⟩
  | 7 => ⟨S8x8192x1024, .f32⟩
  | 8 => ⟨S8x8192x1024, .f32⟩
  | 9 => ⟨S8x8192x1024, .f32⟩
  | 10 => ⟨S_, .f32⟩
  | 11 => ⟨S8x8192, .f32⟩
  | 12 => ⟨S8x8192x1, .f32⟩
  | 13 => ⟨S_, .f32⟩
  | 14 => ⟨S8x8192x1, .f32⟩
  | 15 => ⟨S8x8192x1, .f32⟩
  | 16 => ⟨S8x8192x1024, .f32⟩
  | 17 => ⟨S8x8192x1024, .f32⟩
  | 18 => ⟨S_, .f32⟩
  | 19 => ⟨S8x8192x1, .f32⟩
  | 20 => ⟨S8x8192x1, .f32⟩
  | 21 => ⟨S8x8192x1, .f32⟩
  | 22 => ⟨S8x8192x1024, .f32⟩
  | 23 => ⟨S8x8192x1024, .f32⟩
  | 24 => ⟨S1x1x1024, .f32⟩
  | 25 => ⟨S8x8192x1024, .f32⟩
  | 26 => ⟨S8x8192x1024, .f32⟩
  | 27 => ⟨S1x1x1024, .f32⟩
  | 28 => ⟨S8x8192x1024, .f32⟩
  | 29 => ⟨S8x8192x1024, .f32⟩
  | _ => ⟨S8x8192x384, .bf16⟩

abbrev hbmTy (i : Nat) : BufTy := match i / 128 with
  | 0 => hbmTy0_0 i
  | 1 => hbmTy0_1 i
  | _ => ⟨S8x8192x384, .bf16⟩

abbrev bufTy : (tb : Table) → Fin (tcTables nBuf tb) → BufTy
  | .hbm, ⟨i, _⟩ => hbmTy i
  | _, _ => ⟨S8x8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_c_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_cst_16 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_17 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_v88 : Ref sig .tc := ⟨.hbm, 131, rfl⟩
abbrev main_cst_20 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_21 : Ref sig .tc := ⟨.hbm, 138, rfl⟩
abbrev main_v94 : Ref sig .tc := ⟨.hbm, 139, rfl⟩
abbrev main_v95 : Ref sig .tc := ⟨.hbm, 140, rfl⟩
abbrev main_cst_22 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_23 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x1x1024 : Shape := ⟨3, ![8, 1, 1024]⟩
abbrev S1024x3968 : Shape := ⟨2, ![1024, 3968]⟩
abbrev S1280 : Shape := ⟨1, ![1280]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩
abbrev S2x128x256 : Shape := ⟨3, ![2, 128, 256]⟩
abbrev S128x4 : Shape := ⟨2, ![128, 4]⟩
abbrev S128x4x64 : Shape := ⟨3, ![128, 4, 64]⟩
abbrev S1024x2432 : Shape := ⟨2, ![1024, 2432]⟩
abbrev S1024x384 : Shape := ⟨2, ![1024, 384]⟩
abbrev S1024x1152 : Shape := ⟨2, ![1024, 1152]⟩
abbrev S1x1280 : Shape := ⟨2, ![1, 1280]⟩
abbrev S1x256 : Shape := ⟨2, ![1, 256]⟩
abbrev S128 : Shape := ⟨1, ![128]⟩
abbrev S128x1 : Shape := ⟨2, ![128, 1]⟩
abbrev S1x128 : Shape := ⟨2, ![1, 128]⟩
abbrev S256x128 : Shape := ⟨2, ![256, 128]⟩
abbrev S8x8192x256 : Shape := ⟨3, ![8, 8192, 256]⟩
abbrev S8x8192x1280 : Shape := ⟨3, ![8, 8192, 1280]⟩
abbrev S8x8192x384 : Shape := ⟨3, ![8, 8192, 384]⟩
abbrev S8x8192x768 : Shape := ⟨3, ![8, 8192, 768]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x1280 : Shape := ⟨3, ![1, 512, 1280]⟩
abbrev S1x512x384 : Shape := ⟨3, ![1, 512, 384]⟩
abbrev S1x512x768 : Shape := ⟨3, ![1, 512, 768]⟩
abbrev S8x1280 : Shape := ⟨2, ![8, 1280]⟩
abbrev S512x1024 : Shape := ⟨2, ![512, 1024]⟩
abbrev S1x1024 : Shape := ⟨2, ![1, 1024]⟩
abbrev S1024x768 : Shape := ⟨2, ![1024, 768]⟩
abbrev S512x768 : Shape := ⟨2, ![512, 768]⟩
abbrev S1024x1280 : Shape := ⟨2, ![1024, 1280]⟩
abbrev S512x1280 : Shape := ⟨2, ![512, 1280]⟩
abbrev S512x1152 : Shape := ⟨2, ![512, 1152]⟩
abbrev S512x384 : Shape := ⟨2, ![512, 384]⟩
abbrev S512x256 : Shape := ⟨2, ![512, 256]⟩
abbrev S512x128 : Shape := ⟨2, ![512, 128]⟩

abbrev nBuf : Space → Nat
  | .hbm => 68
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024x3968, .f32⟩
  | .hbm, ⟨4, _⟩ => ⟨S1280, .f32⟩
  | .hbm, ⟨5, _⟩ => ⟨S256, .f32⟩
  | .hbm, ⟨6, _⟩ => ⟨S256, .f32⟩
  | .hbm, ⟨7, _⟩ => ⟨S4x128x128, .f32⟩
  | .hbm, ⟨8, _⟩ => ⟨S4x128, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S1x128x128, .f32⟩
  | .hbm, ⟨13, _⟩ => ⟨S128x128, .f32⟩
  | .hbm, ⟨14, _⟩ => ⟨S1x128x128, .f32⟩
  | .hbm, ⟨15, _⟩ => ⟨S128x128, .f32⟩
  | .hbm, ⟨16, _⟩ => ⟨S128x256, .f32⟩
  | .hbm, ⟨17, _⟩ => ⟨S1x128x128, .f32⟩
  | .hbm, ⟨18, _⟩ => ⟨S128x128, .f32⟩
  | .hbm, ⟨19, _⟩ => ⟨S1x128x128, .f32⟩
  | .hbm, ⟨20, _⟩ => ⟨S128x128, .f32⟩
  | .hbm, ⟨21, _⟩ => ⟨S128x256, .f32⟩
  | .hbm, ⟨22, _⟩ => ⟨S1x128x256, .f32⟩
  | .hbm, ⟨23, _⟩ => ⟨S1x128x256, .f32⟩
  | .hbm, ⟨24, _⟩ => ⟨S2x128x256, .f32⟩
  | .hbm, ⟨25, _⟩ => ⟨S128x4, .f32⟩
  | .hbm, ⟨26, _⟩ => ⟨S128x4x64, .f32⟩
  | .hbm, ⟨27, _⟩ => ⟨S128x256, .f32⟩
  | .hbm, ⟨28, _⟩ => ⟨S1024x2432, .f32⟩
  | .hbm, ⟨29, _⟩ => ⟨S1024x384, .f32⟩
  | .hbm, ⟨30, _⟩ => ⟨S1024x1152, .f32⟩
  | .hbm, ⟨31, _⟩ => ⟨S1024x3968, .f32⟩
  | .hbm, ⟨32, _⟩ => ⟨S1024x3968, .bf16⟩
  | .hbm, ⟨33, _⟩ => ⟨S1x1280, .f32⟩
  | .hbm, ⟨34, _⟩ => ⟨S1x256, .f32⟩
  | .hbm, ⟨35, _⟩ => ⟨S1x256, .f32⟩
  | .hbm, ⟨36, _⟩ => ⟨S128, .i32⟩
  | .hbm, ⟨37, _⟩ => ⟨S_, .i32⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S128x1, .i32⟩
  | .hbm, ⟨56, _⟩ => ⟨S1x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S128x128, .bf16⟩
  | .hbm, ⟨61, _⟩ => ⟨S256x128, .bf16⟩
  | .hbm, ⟨62, _⟩ => ⟨S8x8192x256, .bf16⟩
  | .hbm, ⟨63, _⟩ => ⟨S8x8192x1280, .f32⟩
  | .hbm, ⟨64, _⟩ => ⟨S8x8192x384, .f32⟩
  | .hbm, ⟨65, _⟩ => ⟨S8x8192x384, .f32⟩
  | .hbm, ⟨66, _⟩ => ⟨S8x8192x384, .bf16⟩
  | .hbm, ⟨67, _⟩ => ⟨S8x8192x768, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3968, .bf16⟩
  | .local _ .vmem, ⟨7, _⟩ => ⟨S1x1280, .f32⟩
  | .local _ .vmem, ⟨8, _⟩ => ⟨S1x256, .f32⟩
  | .local _ .vmem, ⟨9, _⟩ => ⟨S1x256, .f32⟩
  | .local _ .vmem, ⟨10, _⟩ => ⟨S2x128x256, .f32⟩
  | .local _ .vmem, ⟨11, _⟩ => ⟨S128x256, .f32⟩
  | .local _ .vmem, ⟨12, _⟩ => ⟨S256x128, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x1280, .f32⟩
  | .local _ .vmem, ⟨16, _⟩ => ⟨S1x512x1280, .f32⟩
  | .local _ .vmem, ⟨17, _⟩ => ⟨S1x512x384, .f32⟩
  | .local _ .vmem, ⟨18, _⟩ => ⟨S1x512x384, .f32⟩
  | .local _ .vmem, ⟨19, _⟩ => ⟨S1x512x384, .f32⟩
  | .local _ .vmem, ⟨20, _⟩ => ⟨S1x512x384, .f32⟩
  | .local _ .vmem, ⟨21, _⟩ => ⟨S1x512x384, .bf16⟩
  | .local _ .vmem, ⟨22, _⟩ => ⟨S1x512x384, .bf16⟩
  | .local _ .vmem, ⟨23, _⟩ => ⟨S1x512x768, .bf16⟩
  | .local _ .vmem, ⟨24, _⟩ => ⟨S1x512x768, .bf16⟩
  | .local _ .vmem, ⟨25, _⟩ => ⟨S8x1280, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev main_v35_2 : Ref sig .tc := ⟨.hbm, 64, rfl⟩
abbrev main_v35_3 : Ref sig .tc := ⟨.hbm, 65, rfl⟩
abbrev main_v35_4 : Ref sig .tc := ⟨.hbm, 66, rfl⟩
abbrev main_v35_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1280 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x8192x1024 : Shape := ⟨3, ![8, 8192, 1024]⟩
abbrev S8x1x1024 : Shape := ⟨3, ![8, 1, 1024]⟩
abbrev S1024x3968 : Shape := ⟨2, ![1024, 3968]⟩
abbrev S1280 : Shape := ⟨1, ![1280]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S8x8192x3968 : Shape := ⟨3, ![8, 8192, 3968]⟩
abbrev S8x8192x768 : Shape := ⟨3, ![8, 8192, 768]⟩
abbrev S8x8192x1664 : Shape := ⟨3, ![8, 8192, 1664]⟩
abbrev S8x8192x1536 : Shape := ⟨3, ![8, 8192, 1536]⟩
abbrev S8x8192x256 : Shape := ⟨3, ![8, 8192, 256]⟩
abbrev S8x8192x4x64 : Shape := ⟨4, ![8, 8192, 4, 64]⟩
abbrev S4x64 : Shape := ⟨2, ![4, 64]⟩
abbrev S8x8192x4 : Shape := ⟨3, ![8, 8192, 4]⟩
abbrev S8x8192x4x1 : Shape := ⟨4, ![8, 8192, 4, 1]⟩
abbrev S1x1x4x64 : Shape := ⟨4, ![1, 1, 4, 64]⟩
abbrev S8x64x128x4x64 : Shape := ⟨5, ![8, 64, 128, 4, 64]⟩
abbrev S128x128 : Shape := ⟨2, ![128, 128]⟩
abbrev S1x128x128 : Shape := ⟨3, ![1, 128, 128]⟩
abbrev S4x8x64x64x128 : Shape := ⟨5, ![4, 8, 64, 64, 128]⟩
abbrev S128x4 : Shape := ⟨2, ![128, 4]⟩
abbrev S1x1x128x4x1 : Shape := ⟨5, ![1, 1, 128, 4, 1]⟩
abbrev S8x8192x1280 : Shape := ⟨3, ![8, 8192, 1280]⟩
abbrev S8x8193x1280 : Shape := ⟨3, ![8, 8193, 1280]⟩
abbrev S1x1x1280 : Shape := ⟨3, ![1, 1, 1280]⟩
abbrev S8x8192x384 : Shape := ⟨3, ![8, 8192, 384]⟩

abbrev nBuf : Space → Nat
  | .hbm => 127
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024x3968, .f32⟩
  | .hbm, ⟨4, _⟩ => ⟨S1280, .f32⟩
  | .hbm, ⟨5, _⟩ => ⟨S256, .f32⟩
  | .hbm, ⟨6, _⟩ => ⟨S256, .f32⟩
  | .hbm, ⟨7, _⟩ => ⟨S4x128x128, .f32⟩
  | .hbm, ⟨8, _⟩ => ⟨S4x128, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S8x8192x3968, .f32⟩
  | .hbm, ⟨17, _⟩ => ⟨S8x8192x768, .f32⟩
  | .hbm, ⟨18, _⟩ => ⟨S8x8192x1664, .f32⟩
  | .hbm, ⟨19, _⟩ => ⟨S8x8192x1536, .f32⟩
  | .hbm, ⟨20, _⟩ => ⟨S8x8192x256, .f32⟩
  | .hbm, ⟨21, _⟩ => ⟨S8x8192x256, .f32⟩
  | .hbm, ⟨22, _⟩ => ⟨S8x8192x256, .f32⟩
  | .hbm, ⟨23, _⟩ => ⟨S8x8192x256, .f32⟩
  | .hbm, ⟨24, _⟩ => ⟨S8x8192x256, .f32⟩
  | .hbm, ⟨25, _⟩ => ⟨S_, .f32⟩
  | .hbm, ⟨26, _⟩ => ⟨S8x8192x256, .f32⟩
  | .hbm, ⟨27, _⟩ => ⟨S8x8192x256, .f32⟩
  | .hbm, ⟨28, _⟩ => ⟨S_, .f32⟩
  | .hbm, ⟨29, _⟩ => ⟨S8x8192x256, .f32⟩
  | .hbm, ⟨30, _⟩ => ⟨S8x8192x256, .f32⟩
  | .hbm, ⟨31, _⟩ => ⟨S8x8192x256, .f32⟩
  | .hbm, ⟨32, _⟩ => ⟨S8x8192x4x64, .f32⟩
  | .hbm, ⟨33, _⟩ => ⟨S4x64, .f32⟩
  | .hbm, ⟨34, _⟩ => ⟨S4x64, .f32⟩
  | .hbm, ⟨35, _⟩ => ⟨S_, .f32⟩
  | .hbm, ⟨36, _⟩ => ⟨S8x8192x4, .f32⟩
  | .hbm, ⟨37, _⟩ => ⟨S8x8192x4x1, .f32⟩
  | .hbm, ⟨38, _⟩ => ⟨S_, .f32⟩
  | .hbm, ⟨39, _⟩ => ⟨S8x8192x4x1, .f32⟩
  | .hbm, ⟨40, _⟩ => ⟨S8x8192x4x1, .f32⟩
  | .hbm, ⟨41, _⟩ => ⟨S8x8192x4x64, .f32⟩
  | .hbm, ⟨42, _⟩ => ⟨S8x8192x4x64, .f32⟩
  | .hbm, ⟨43, _⟩ => ⟨S8x8192x4x64, .f32⟩
  | .hbm, ⟨44, _⟩ => ⟨S_, .f32⟩
  | .hbm, ⟨45, _⟩ => ⟨S8x8192x4, .f32⟩
  | .hbm, ⟨46, _⟩ => ⟨S8x8192x4x1, .f32⟩
  | .hbm, ⟨47, _⟩ => ⟨S_, .f32⟩
  | .hbm, ⟨48, _⟩ => ⟨S8x8192x4x1, .f32⟩
  | .hbm, ⟨49, _⟩ => ⟨S8x8192x4x1, .f32⟩
  | .hbm, ⟨50, _⟩ => ⟨S8x8192x4x64, .f32⟩
  | .hbm, ⟨51, _⟩ => ⟨S8x8192x4x64, .f32⟩
  | .hbm, ⟨52, _⟩ => ⟨S_, .f32⟩
  | .hbm, ⟨53, _⟩ => ⟨S8x8192x4x1, .f32⟩
  | .hbm, ⟨54, _⟩ => ⟨S8x8192x4x1, .f32⟩
  | .hbm, ⟨55, _⟩ => ⟨S8x8192x4x1, .f32⟩
  | .hbm, ⟨56, _⟩ => ⟨S8x8192x4x64, .f32⟩
  | .hbm, ⟨57, _⟩ => ⟨S8x8192x4x64, .f32⟩
  | .hbm, ⟨58, _⟩ => ⟨S1x1x4x64, .f32⟩
  | .hbm, ⟨59, _⟩ => ⟨S8x8192x4x64, .f32⟩
  | .hbm, ⟨60, _⟩ => ⟨S8x8192x4x64, .f32⟩
  | .hbm, ⟨61, _⟩ => ⟨S1x1x4x64, .f32⟩
  | .hbm, ⟨62, _⟩ => ⟨S8x8192x4x64, .f32⟩
  | .hbm, ⟨63, _⟩ => ⟨S8x8192x4x64, .f32⟩
  | .hbm, ⟨64, _⟩ => ⟨S8x64x128x4x64, .f32⟩
  | .hbm, ⟨65, _⟩ => ⟨S_, .i1⟩
  | .hbm, ⟨66, _⟩ => ⟨S128x128, .i1⟩
  | .hbm, ⟨67, _⟩ => ⟨S128x128, .i32⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S1x128x128, .i1⟩
  | .hbm, ⟨77, _⟩ => ⟨S_, .f32⟩
  | .hbm, ⟨78, _⟩ => ⟨S4x128x128, .f32⟩
  | .hbm, ⟨79, _⟩ => ⟨S4x128x128, .i1⟩
  | .hbm, ⟨80, _⟩ => ⟨S4x128x128, .f32⟩
  | .hbm, ⟨81, _⟩ => ⟨S4x8x64x64x128, .f32⟩
  | .hbm, ⟨82, _⟩ => ⟨S8x64x128x4x64, .f32⟩
  | .hbm, ⟨83, _⟩ => ⟨S128x4, .f32⟩
  | .hbm, ⟨84, _⟩ => ⟨S1x1x128x4x1, .f32⟩
  | .hbm, ⟨85, _⟩ => ⟨S8x64x128x4x64, .f32⟩
  | .hbm, ⟨86, _⟩ => ⟨S8x64x128x4x64, .f32⟩
  | .hbm, ⟨87, _⟩ => ⟨S8x8192x256, .f32⟩
  | .hbm, ⟨88, _⟩ => ⟨S8x8192x256, .f32⟩
  | .hbm, ⟨89, _⟩ => ⟨S8x8192x256, .f32⟩
  | .hbm, ⟨90, _⟩ => ⟨S8x8192x1280, .f32⟩
  | .hbm, ⟨91, _⟩ => ⟨S_, .i32⟩
  | .hbm, ⟨92, _⟩ => ⟨S_, .f32⟩
  | .hbm, ⟨93, _⟩ => ⟨S8x8193x1280, .f32⟩
  | .hbm, ⟨94, _⟩ => ⟨S8x8192x1280, .f32⟩
  | .hbm, ⟨95, _⟩ => ⟨S8x8192x1280, .f32⟩
  | .hbm, ⟨96, _⟩ => ⟨S1x1x1280, .f32⟩
  | .hbm, ⟨97, _⟩ => ⟨S8x8192x1280, .f32⟩
  | .hbm, ⟨98, _⟩ => ⟨S8x8192x1280, .f32⟩
  | .hbm, ⟨99, _⟩ => ⟨S8x8192x1280, .f32⟩
  | .hbm, ⟨100, _⟩ => ⟨S8x8192x384, .f32⟩
  | .hbm, ⟨101, _⟩ => ⟨S8x8192x384, .f32⟩
  | .hbm, ⟨102, _⟩ => ⟨S8x8192x384, .f32⟩
  | .hbm, ⟨103, _⟩ => ⟨S_, .f32⟩
  | .hbm, ⟨104, _⟩ => ⟨S8x8192x384, .f32⟩
  | .hbm, ⟨105, _⟩ => ⟨S8x8192x384, .f32⟩
  | .hbm, ⟨106, _⟩ => ⟨S_, .f32⟩
  | .hbm, ⟨107, _⟩ => ⟨S8x8192x384, .f32⟩
  | .hbm, ⟨108, _⟩ => ⟨S8x8192x384, .f32⟩
  | .hbm, ⟨109, _⟩ => ⟨S8x8192x384, .f32⟩
  | .hbm, ⟨110, _⟩ => ⟨S8x8192x384, .f32⟩
  | .hbm, ⟨111, _⟩ => ⟨S8x8192x384, .f32⟩
  | .hbm, ⟨112, _⟩ => ⟨S8x8192x384, .f32⟩
  | .hbm, ⟨113, _⟩ => ⟨S8x8192x384, .f32⟩
  | .hbm, ⟨114, _⟩ => ⟨S8x8192x768, .f32⟩
  | .hbm, ⟨115, _⟩ => ⟨S8x8192x256, .bf16⟩
  | .hbm, ⟨116, _⟩ => ⟨S8x8192x384, .f32⟩
  | .hbm, ⟨117, _⟩ => ⟨S8x8192x384, .f32⟩
  | .hbm, ⟨118, _⟩ => ⟨S_, .f32⟩
  | .hbm, ⟨119, _⟩ => ⟨S8x8192x384, .f32⟩
  | .hbm, ⟨120, _⟩ => ⟨S8x8192x384, .f32⟩
  | .hbm, ⟨121, _⟩ => ⟨S_, .f32⟩
  | .hbm, ⟨122, _⟩ => ⟨S8x8192x384, .f32⟩
  | .hbm, ⟨123, _⟩ => ⟨S8x8192x384, .f32⟩
  | .hbm, ⟨124, _⟩ => ⟨S8x8192x384, .f32⟩
  | .hbm, ⟨125, _⟩ => ⟨S8x8192x384, .bf16⟩
  | .hbm, ⟨126, _⟩ => ⟨S8x8192x768, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c : Ref sig .tc := ⟨.hbm, 65, rfl⟩
abbrev main_v42 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_0 : Ref sig .tc := ⟨.hbm, 73, rfl⟩
abbrev main_call1_v5 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_call2_v0 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_6 : Ref sig .tc := ⟨.hbm, 91, rfl⟩
abbrev main_call3_v0 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call4_v0 : Ref sig .tc := ⟨.hbm, 101, rfl⟩
abbrev main_call4_v1 : Ref sig .tc := ⟨.hbm, 102, rfl⟩
abbrev main_call4_cst : Ref sig .tc := ⟨.hbm, 103, rfl⟩
abbrev main_call4_v2 : Ref sig .tc := ⟨.hbm, 104, rfl⟩
abbrev main_call4_v3 : Ref sig .tc := ⟨.hbm, 105, rfl⟩
abbrev main_call4_cst_0 : Ref sig .tc := ⟨.hbm, 106, rfl⟩
abbrev main_call4_v4 : Ref sig .tc := ⟨.hbm, 107, rfl⟩
abbrev main_call4_v5 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_call5_v0 : Ref sig .tc := ⟨.hbm, 116, rfl⟩
abbrev main_call5_v1 : Ref sig .tc := ⟨.hbm, 117, rfl⟩
abbrev main_call5_cst : Ref sig .tc := ⟨.hbm, 118, rfl⟩
abbrev main_call5_v2 : Ref sig .tc := ⟨.hbm, 119, rfl⟩
abbrev main_call5_v3 : Ref sig .tc := ⟨.hbm, 120, rfl⟩
abbrev main_call5_cst_0 : Ref sig .tc := ⟨.hbm, 121, rfl⟩
abbrev main_call5_v4 : Ref sig .tc := ⟨.hbm, 122, rfl⟩
abbrev main_call5_v5 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩

abbrev nD : Nat := 1
abbrev τ : Topo := Topo.v7x

variable {F : FTy → Type} [FloatOps F]
-- ==== Kernel3.lean ====
abbrev S8x1024 : Shape := ⟨2, ![8, 1024]⟩
abbrev S1024x3072 : Shape := ⟨2, ![1024, 3072]⟩
abbrev S3072 : Shape := ⟨1, ![3072]⟩
abbrev S1x3072 : Shape := ⟨2, ![1, 3072]⟩
abbrev S8x3072 : Shape := ⟨2, ![8, 3072]⟩

abbrev nBuf : Space → Nat
  | .hbm => 6
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S3072, .f32⟩
  | .hbm, ⟨3, _⟩ => ⟨S1024x3072, .bf16⟩
  | .hbm, ⟨4, _⟩ => ⟨S1x3072, .f32⟩
  | .hbm, ⟨5, _⟩ => ⟨S8x3072, .f32⟩
  | .local _ .vmem, ⟨0, _⟩ => ⟨S8x1024, .f32⟩
  | .local _ .vmem, ⟨1, _⟩ => ⟨S1024x3072, .bf16⟩
  | .local _ .vmem, ⟨2, _⟩ => ⟨S1x3072, .f32⟩
  | .local _ .vmem, ⟨3, _⟩ => ⟨S8x3072, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference3Ideal.lean ====
abbrev S8x1024 : Shape := ⟨2, ![8, 1024]⟩
abbrev S1024x3072 : Shape := ⟨2, ![1024, 3072]⟩
abbrev S3072 : Shape := ⟨1, ![3072]⟩
abbrev S_ : Shape := ⟨0, ![]⟩
abbrev S8x3072 : Shape := ⟨2, ![8, 3072]⟩
abbrev S1x3072 : Shape := ⟨2, ![1, 3072]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x3072, .f32⟩
  | .hbm, ⟨13, _⟩ => ⟨S1x3072, .f32⟩
  | .hbm, ⟨14, _⟩ => ⟨S8x3072, .f32⟩
  | .hbm, ⟨15, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel4.lean ====
abbrev S8x8192x1280 : Shape := ⟨3, ![8, 8192, 1280]⟩
abbrev S8x8192x384 : Shape := ⟨3, ![8, 8192, 384]⟩
abbrev S384 : Shape := ⟨1, ![384]⟩
abbrev S64x384 : Shape := ⟨2, ![64, 384]⟩
abbrev S6x64 : Shape := ⟨2, ![6, 64]⟩
abbrev S384x32 : Shape := ⟨2, ![384, 32]⟩
abbrev S32x384 : Shape := ⟨2, ![32, 384]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x192 : Shape := ⟨2, ![64, 192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S128x128 : Shape := ⟨2, ![128, 128]⟩
abbrev S1x384 : Shape := ⟨2, ![1, 384]⟩
abbrev S8x384 : Shape := ⟨2, ![8, 384]⟩
abbrev S128 : Shape := ⟨1, ![128]⟩
abbrev S128x1 : Shape := ⟨2, ![128, 1]⟩
abbrev S1x128 : Shape := ⟨2, ![1, 128]⟩
abbrev S256x128 : Shape := ⟨2, ![256, 128]⟩
abbrev S1x512x1280 : Shape := ⟨3, ![1, 512, 1280]⟩
abbrev S1x512x384 : Shape := ⟨3, ![1, 512, 384]⟩
abbrev S512x384 : Shape := ⟨2, ![512, 384]⟩
abbrev S3x128x128 : Shape := ⟨3, ![3, 128, 128]⟩
abbrev S512x1280 : Shape := ⟨2, ![512, 1280]⟩
abbrev S512x64 : Shape := ⟨2, ![512, 64]⟩
abbrev S512x32 : Shape := ⟨2, ![512, 32]⟩
abbrev S512x128 : Shape := ⟨2, ![512, 128]⟩
abbrev S512x256 : Shape := ⟨2, ![512, 256]⟩
abbrev S64x128 : Shape := ⟨2, ![64, 128]⟩
abbrev S192x384 : Shape := ⟨2, ![192, 384]⟩
abbrev S128x256 : Shape := ⟨2, ![128, 256]⟩
abbrev S1x128x128 : Shape := ⟨3, ![1, 128, 128]⟩

abbrev nBuf : Space → Nat
  | .hbm => 176
  | .vmem => 19
  | .smem => 0
  | _ => 0

abbrev hbmTy0_0 (i : Nat) : BufTy := match i % 128 with
  | 0 => ⟨S8x8192x1280, .f32⟩
  | 1 => ⟨S8x8192x384, .f32⟩
  | 2 => ⟨S8x8192x384, .f32⟩
  | 3 => ⟨S384, .f32⟩
  | 4 => ⟨S64x384, .f32⟩
  | 5 => ⟨S384, .f32⟩
  | 6 => ⟨S64x384, .f32⟩
  | 7 => ⟨S384, .f32⟩
  | 8 => ⟨S384, .f32⟩
  | 9 => ⟨S6x64, .f32⟩
  | 10 => ⟨S384, .f32⟩
  | 11 => ⟨S384, .f32⟩
  | 12 => ⟨S384, .f32⟩
  | 13 => ⟨S384x32, .f32⟩
  | 14 => ⟨S32x384, .f32⟩
  | 15 => ⟨S64, .i32⟩
  | 16 => ⟨S64x1, .i32⟩
  | 17 => ⟨S1x64, .i32⟩
  | 18 => ⟨S64x64, .i32⟩
  | 19 => ⟨S64x64, .i32⟩
  | 20 => ⟨S64x64, .i1⟩
  | 21 => ⟨S64x64, .bf16⟩
  | 22 => ⟨S64x192, .bf16⟩
  | 23 => ⟨S256, .i32⟩
  | 24 => ⟨S_, .i32⟩
  | 25 => ⟨S_, .i32⟩
  | 26 => ⟨S256, .i32⟩
  | 27 => ⟨S256, .i32⟩
  | 28 => ⟨S256, .i32⟩
  | 29 => ⟨S_, .i32⟩
  | 30 => ⟨S256, .i32⟩
  | 31 => ⟨S256, .i1⟩
  | 32 => ⟨S256, .i32⟩
  | 33 => ⟨S256, .i32⟩
  | 34 => ⟨S_, .i32⟩
  | 35 => ⟨S256, .i32⟩
  | 36 => ⟨S256, .i1⟩
  | 37 => ⟨S256, .i1⟩
  | 38 => ⟨S_, .i32⟩
  | 39 => ⟨S256, .i32⟩
  | 40 => ⟨S256, .i32⟩
  | 41 => ⟨S256, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S256, .i32⟩
  | 49 => ⟨S256, .i32⟩
  | 50 => ⟨S_, .i32⟩
  | 51 => ⟨S256, .i32⟩
  | 52 => ⟨S256, .i1⟩
  | 53 => ⟨S_, .i32⟩
  | 54 => ⟨S256, .i32⟩
  | 55 => ⟨S256, .i1⟩
  | 56 => ⟨S_, .i32⟩
  | 57 => ⟨S_, .i1⟩
  | 58 => ⟨S256, .i1⟩
  | 59 => ⟨S256, .i1⟩
  | 60 => ⟨S256, .i1⟩
  | 61 => ⟨S256, .i32⟩
  | 62 => ⟨S256, .i32⟩
  | 63 => ⟨S256, .i32⟩
  | 64 => ⟨S_, .i32⟩
  | 65 => ⟨S_, .i32⟩
  | 66 => ⟨S256, .i32⟩
  | 67 => ⟨S256, .i32⟩
  | 68 => ⟨S256, .i32⟩
  | 69 => ⟨S_, .i32⟩
  | 70 => ⟨S256, .i32⟩
  | 71 => ⟨S256, .i1⟩
  | 72 => ⟨S256, .i32⟩
  | 73 => ⟨S256, .i32⟩
  | 74 => ⟨S_, .i32⟩
  | 75 => ⟨S256, .i32⟩
  | 76 => ⟨S256, .i1⟩
  | 77 => ⟨S256, .i1⟩
  | 78 => ⟨S_, .i32⟩
  | 79 => ⟨S256, .i32⟩
  | 80 => ⟨S256, .i32⟩
  | 81 => ⟨S256, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S256, .i32⟩
  | 89 => ⟨S256, .i32⟩
  | 90 => ⟨S_, .i32⟩
  | 91 => ⟨S256, .i32⟩
  | 92 => ⟨S256, .i1⟩
  | 93 => ⟨S_, .i32⟩
  | 94 => ⟨S256, .i32⟩
  | 95 => ⟨S256, .i1⟩
  | 96 => ⟨S_, .i32⟩
  | 97 => ⟨S_, .i1⟩
  | 98 => ⟨S256, .i1⟩
  | 99 => ⟨S256, .i1⟩
  | 100 => ⟨S256, .i1⟩
  | 101 => ⟨S256, .i32⟩
  | 102 => ⟨S256, .i32⟩
  | 103 => ⟨S256, .i32⟩
  | 104 => ⟨S256x1, .i32⟩
  | 105 => ⟨S1x256, .i32⟩
  | 106 => ⟨S256x256, .i32⟩
  | 107 => ⟨S256x256, .i32⟩
  | 108 => ⟨S256x256, .i1⟩
  | 109 => ⟨S1x256, .i32⟩
  | 110 => ⟨S256x1, .i32⟩
  | 111 => ⟨S256x256, .i32⟩
  | 112 => ⟨S256x256, .i32⟩
  | 113 => ⟨S256x256, .i1⟩
  | 114 => ⟨S256x1, .i32⟩
  | 115 => ⟨S_, .i32⟩
  | 116 => ⟨S256x1, .i32⟩
  | 117 => ⟨S256x1, .i1⟩
  | 118 => ⟨S1x256, .i32⟩
  | 119 => ⟨S256x1, .i32⟩
  | 120 => ⟨S256x256, .i32⟩
  | 121 => ⟨S256x256, .i32⟩
  | 122 => ⟨S256x256, .i1⟩
  | 123 => ⟨S256x256, .i1⟩
  | 124 => ⟨S256x256, .i1⟩
  | 125 => ⟨S256x256, .i1⟩
  | 126 => ⟨S256x256, .i1⟩
  | 127 => ⟨S256x256, .f32⟩
  | _ => ⟨S8x8192x1280, .f32⟩

abbrev hbmTy0_1 (i : Nat) : BufTy := match i % 128 with
  | 0 => ⟨S128x128, .i32⟩
  | 1 => ⟨S128x128, .i32⟩
  | 2 => ⟨S_, .i32⟩
  | 3 => ⟨S128x128, .i32⟩
  | 4 => ⟨S128x128, .i32⟩
  | 5 => ⟨S128x128, .i1⟩
  | 6 => ⟨S128x128, .f32⟩
  | 7 => ⟨S384, .f32⟩
  | 8 => ⟨S1x384, .f32⟩
  | 9 => ⟨S1x384, .f32⟩
  | 10 => ⟨S1x384, .f32⟩
  | 11 => ⟨S1x384, .f32⟩
  | 12 => ⟨S1x384, .f32⟩
  | 13 => ⟨S1x384, .f32⟩
  | 14 => ⟨S1x384, .f32⟩
  | 15 => ⟨S1x384, .f32⟩
  | 16 => ⟨S8x384, .f32⟩
  | 17 => ⟨S64x384, .bf16⟩
  | 18 => ⟨S64x384, .bf16⟩
  | 19 => ⟨S128, .i32⟩
  | 20 => ⟨S_, .i32⟩
  | 21 => ⟨S_, .i32⟩
  | 22 => ⟨S128, .i32⟩
  | 23 => ⟨S128, .i32⟩
  | 24 => ⟨S128, .i32⟩
  | 25 => ⟨S_, .i32⟩
  | 26 => ⟨S128, .i32⟩
  | 27 => ⟨S128, .i1⟩
  | 28 => ⟨S128, .i32⟩
  | 29 => ⟨S128, .i32⟩
  | 30 => ⟨S_, .i32⟩
  | 31 => ⟨S128, .i32⟩
  | 32 => ⟨S128, .i1⟩
  | 33 => ⟨S128, .i1⟩
  | 34 => ⟨S_, .i32⟩
  | 35 => ⟨S128, .i32⟩
  | 36 => ⟨S128, .i32⟩
  | 37 => ⟨S128, .i32⟩
  | 38 => ⟨S128x1, .i32⟩
  | 39 => ⟨S1x128, .i32⟩
  | 40 => ⟨S128x128, .i32⟩
  | 41 => ⟨S128x128, .i32⟩
  | 42 => ⟨S128x128, .i1⟩
  | 43 => ⟨S128x128, .bf16⟩
  | 44 => ⟨S256x128, .bf16⟩
  | 45 => ⟨S384x32, .bf16⟩
  | 46 => ⟨S32x384, .bf16⟩
  | 47 => ⟨S8x8192x384, .bf16⟩
  | _ => ⟨S8x8192x1280, .f32⟩

abbrev hbmTy (i : Nat) : BufTy := match i / 128 with
  | 0 => hbmTy0_0 i
  | 1 => hbmTy0_1 i
  | _ => ⟨S8x8192x1280, .f32⟩

abbrev bufTy : (tb : Table) → Fin (tcTables nBuf tb) → BufTy
  | .hbm, ⟨i, _⟩ => hbmTy i
  | .local _ .vmem, ⟨0, _⟩ => ⟨S1x512x1280, .f32⟩
  | .local _ .vmem, ⟨1, _⟩ => ⟨S1x512x1280, .f32⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S384x32, .bf16⟩
  | .local _ .vmem, ⟨7, _⟩ => ⟨S32x384, .bf16⟩
  | .local _ .vmem, ⟨8, _⟩ => ⟨S8x384, .f32⟩
  | .local _ .vmem, ⟨9, _⟩ => ⟨S64x384, .bf16⟩
  | .local _ .vmem, ⟨10, _⟩ => ⟨S64x384, .bf16⟩
  | .local _ .vmem, ⟨11, _⟩ => ⟨S256x128, .bf16⟩
  | .local _ .vmem, ⟨12, _⟩ => ⟨S64x192, .bf16⟩
  | .local _ .vmem, ⟨13, _⟩ => ⟨S256x256, .f32⟩
  | .local _ .vmem, ⟨14, _⟩ => ⟨S128x128, .f32⟩
  | .local _ .vmem, ⟨15, _⟩ => ⟨S1x512x384, .bf16⟩
  | .local _ .vmem, ⟨16, _⟩ => ⟨S1x512x384, .bf16⟩
  | .local _ .vmem, ⟨17, _⟩ => ⟨S512x384, .f32⟩
  | .local _ .vmem, ⟨18, _⟩ => ⟨S3x128x128, .f32⟩
  | _, _ => ⟨S8x8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v9 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v10 : Ref sig .tc := ⟨.hbm, 63, rfl⟩
abbrev main_c_1 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v11 : Ref sig .tc := ⟨.hbm, 81, rfl⟩
abbrev main_c_2 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_1 : Ref sig .tc := ⟨.hbm, 90, rfl⟩
abbrev main_call3_v5 : Ref sig .tc := ⟨.hbm, 91, rfl⟩
abbrev main_call3_v6 : Ref sig .tc := ⟨.hbm, 92, rfl⟩
abbrev main_call3_c_2 : Ref sig .tc := ⟨.hbm, 93, rfl⟩
abbrev main_call3_v7 : Ref sig .tc := ⟨.hbm, 94, rfl⟩
abbrev main_call3_v8 : Ref sig .tc := ⟨.hbm, 95, rfl⟩
abbrev main_call3_c_3 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_v12 : Ref sig .tc := ⟨.hbm, 103, rfl⟩
abbrev main_v13 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_v19 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_c_3 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_c_4 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_c_5 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_c : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_c_0 : Ref sig .tc := ⟨.hbm, 162, rfl⟩
abbrev main_call4_v12 : Ref sig .tc := ⟨.hbm, 163, rfl⟩
abbrev main_call4_v13 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_v63 : Ref sig .tc := ⟨.hbm, 173, rfl⟩
abbrev main_v64 : Ref sig .tc := ⟨.hbm, 174, rfl⟩
abbrev main_v65 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S384x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Proof.Spec.lean ====
/- What the layer's attention call computes, as functions of its arrays over the extended reals: the score of a query
   against a key of its band, the attention of one query in the two spellings of the two programs, the row that is
   projected, and the layer normalization. The equations between the two spellings are proved here. -/
module

public import Idealize.ShloMosaic.Lib.Pointwise
public import Idealize.ShloMosaic.Lib.IdealHost

@[expose] public section

noncomputable section

namespace Cert.Att

open Idealize.ShloMosaic Idealize.ShloMosaic.Pointwise

/-! ### Sums over the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a number and not negative distributes over a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top
      (EReal.coe_nonneg.2 hc) (EReal.coe_ne_top c), mul_comm _ (f a), mul_comm _ (∑ i ∈ s, f i)]

/-- The kernel's scale and the reference's are the number one eighth. -/
theorem eighth_bf16 : Ideal.ofBits .bf16 15872#16 = (((1 : ℝ) / 8 : ℝ) : EReal) := by
  simp [Ideal.ofBits, Ideal.ieee, -EReal.coe_mul]; norm_num

theorem eighth_f32 : Ideal.ofBits .f32 1040187392#32 = (((1 : ℝ) / 8 : ℝ) : EReal) := by
  simp [Ideal.ofBits, Ideal.ieee, -EReal.coe_mul]; norm_num

theorem bot_f32 : Ideal.ofBits .f32 4286578688#32 = (⊥ : EReal) := by
  simp [Ideal.ofBits, Ideal.ieee]

/-! ### The attention of one query -/

/-- The largest score of a band. -/
def top (s : Fin 576 → EReal) : EReal := Finset.fold max (Ideal.ofBits .f32 4286578688#32) s Finset.univ

/-- The kernel's order: weigh the values, then divide by the sum of the weights. -/
def attn (s v : Fin 576 → EReal) : EReal :=
  Ideal.div (∑ x, Ideal.exp (s x - top s) * v x) (∑ x, Ideal.exp (s x - top s))

/-- The reference's order: divide the weights by their sum, then weigh the values. -/
def attnR (s v : Fin 576 → EReal) : EReal :=
  ∑ x, v x * Ideal.div (Ideal.exp (s x - top s)) (∑ y, Ideal.exp (s y - top s))

theorem top_real (s : Fin 576 → EReal) (ht : ∀ x, s x ≠ ⊤) (x₀ : Fin 576) (hb : s x₀ ≠ ⊥) : ∃ M : ℝ, top s = (M : EReal) := by
  have h1 : top s < ⊤ := by
    rw [top, Finset.fold_max_lt, bot_f32]
    exact ⟨bot_lt_top, fun x _ => lt_top_iff_ne_top.2 (ht x)⟩
  have h2 : s x₀ ≤ top s := by
    rw [top, Finset.le_fold_max]
    exact .inr ⟨x₀, Finset.mem_univ _, le_rfl⟩
  have h3 : top s ≠ ⊥ := fun e => hb (le_bot_iff.1 (e ▸ h2))
  exact ⟨(top s).toReal, (EReal.coe_toReal h1.ne h3).symm⟩

theorem weight_real (y : EReal) (hy : y ≠ ⊤) (M : ℝ) : ∃ e : ℝ, 0 ≤ e ∧ (y ≠ ⊥ → 0 < e) ∧ Ideal.exp (y - (M : EReal)) = (e : EReal) := by
  induction y using EReal.rec with
  | bot => exact ⟨0, le_rfl, fun h => absurd rfl h, by rw [EReal.bot_sub]; rfl⟩
  | coe y => exact ⟨Real.exp (y - M), (Real.exp_pos _).le, fun _ => Real.exp_pos _, rfl⟩
  | top => exact absurd rfl hy

/-- The two orders give one number where no score is `+∞` and one is not `-∞`. -/
theorem attn_eq (s v : Fin 576 → EReal) (ht : ∀ x, s x ≠ ⊤) (x₀ : Fin 576) (hb : s x₀ ≠ ⊥) : attn s v = attnR s v := by
  obtain ⟨M, hM⟩ := top_real s ht x₀ hb
  choose e he hp hx using fun x => weight_real (s x) (ht x) M
  have hL : 0 < ∑ x, e x := Finset.sum_pos' (fun x _ => he x) ⟨x₀, Finset.mem_univ _, hp x₀ hb⟩
  simp only [attn, attnR, hM, hx, ← coe_sum, Ideal.div_coe hL.ne']
  rw [sum_mul_coe _ _ _ (one_div_nonneg.2 hL.le)]
  refine Finset.sum_congr rfl fun x _ => ?_
  rw [mul_comm (e x : EReal), mul_assoc]

/-! ### Arrays -/

abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

/-- The relative-position bias of query `r` of a chunk for key `x` of its band, of head `h`. -/
def relb (rel : A2 6 513) (h : Fin 6) (r : Fin 64) (x : Fin 576) : EReal :=
  rel (ix2 h ⟨min (r.val + 768 - x.val) 512, by omega⟩)

/-- The score of query `r` of chunk `n` against key `x` of its band, of head `h`; keys before the sequence's start have
    `-∞`. -/
def score (q : A3 8 8192 384) (kv : A3 8 8192 768) (rel : A2 6 513) (b : Fin 8) (n : Fin 128) (h : Fin 6) (r : Fin 64)
    (x : Fin 576) : EReal :=
  if 64 * n.val + x.val < 512 then ⊥
  else (∑ d : Fin 64, q (ix3 b ⟨n.val * 64 + r.val, by omega⟩ ⟨h.val * 64 + d.val, by omega⟩)
      * kv (ix3 b ⟨64 * n.val + x.val - 512, by omega⟩ ⟨h.val * 64 + d.val, by omega⟩)) * (((1 : ℝ) / 8 : ℝ) : EReal)
    + relb rel h r x

/-- The value row of key `x` of chunk `n`'s band, at lane `l` of 384; keys before the sequence's start have zero. -/
def value (kv : A3 8 8192 768) (b : Fin 8) (n : Fin 128) (l : Fin 384) (x : Fin 576) : EReal :=
  if 64 * n.val + x.val < 512 then 0 else kv (ix3 b ⟨64 * n.val + x.val - 512, by omega⟩ ⟨384 + l.val, by omega⟩)

/-- The queries, the keys and the biases are numbers. -/
def Finite (q : A3 8 8192 384) (kv : A3 8 8192 768) (rel : A2 6 513) : Prop :=
  (∀ i, ∃ a : ℝ, q i = (a : EReal)) ∧ (∀ b t, ∀ l : Fin 384, ∃ a : ℝ, kv (ix3 b t ⟨l.val, by omega⟩) = (a : EReal)) ∧
    ∀ i, ∃ a : ℝ, rel i = (a : EReal)

theorem score_real {q : A3 8 8192 384} {kv : A3 8 8192 768} {rel : A2 6 513} (hf : Finite q kv rel) (b : Fin 8) (n : Fin 128)
    (h : Fin 6) (r : Fin 64) (x : Fin 576) (hx : ¬ 64 * n.val + x.val < 512) : ∃ a : ℝ, score q kv rel b n h r x = (a : EReal) := by
  obtain ⟨hq, hk, hr⟩ := hf
  choose q' hq using hq
  choose k' hk using hk
  choose r' hr using hr
  have e : ∀ d : Fin 64, q (ix3 b ⟨n.val * 64 + r.val, by omega⟩ ⟨h.val * 64 + d.val, by omega⟩)
      * kv (ix3 b ⟨64 * n.val + x.val - 512, by omega⟩ ⟨h.val * 64 + d.val, by omega⟩)
      = ((q' (ix3 b ⟨n.val * 64 + r.val, by omega⟩ ⟨h.val * 64 + d.val, by omega⟩)
        * k' b ⟨64 * n.val + x.val - 512, by omega⟩ ⟨h.val * 64 + d.val, by omega⟩ : ℝ) : EReal) := fun d => by
    rw [hq, EReal.coe_mul, ← hk]
  rw [score, if_neg hx, relb, hr, Finset.sum_congr rfl fun d _ => e d, ← coe_sum, ← EReal.coe_mul, ← EReal.coe_add]
  exact ⟨_, rfl⟩

theorem score_ne_top {q : A3 8 8192 384} {kv : A3 8 8192 768} {rel : A2 6 513} (hf : Finite q kv rel) (b : Fin 8) (n : Fin 128)
    (h : Fin 6) (r : Fin 64) (x : Fin 576) : score q kv rel b n h r x ≠ ⊤ := by
  by_cases hx : 64 * n.val + x.val < 512
  · rw [score, if_pos hx]; exact bot_ne_top
  · obtain ⟨a, ha⟩ := score_real hf b n h r x hx
    rw [ha]; exact EReal.coe_ne_top a

/-- Where the scores are numbers, both orders of the attention agree: the last key of a band is never before the start. -/
theorem attn_score {q : A3 8 8192 384} {kv : A3 8 8192 768} {rel : A2 6 513} (hf : Finite q kv rel) (b : Fin 8) (n : Fin 128)
    (h : Fin 6) (r : Fin 64) (v : Fin 576 → EReal) :
    attn (score q kv rel b n h r) v = attnR (score q kv rel b n h r) v := by
  obtain ⟨a, ha⟩ := score_real hf b n h r ⟨575, by decide⟩ (by simp)
  exact attn_eq _ _ (score_ne_top hf b n h r) ⟨575, by decide⟩ (by rw [ha]; exact EReal.coe_ne_bot a)

/-- A key of weight zero adds nothing, whatever its value row holds. -/
theorem attn_congr (s v v' : Fin 576 → EReal) (hv : ∀ x, s x ≠ ⊥ → v x = v' x) : attn s v = attn s v' := by
  unfold attn
  congr 1
  refine Finset.sum_congr rfl fun x _ => ?_
  by_cases hx : s x = ⊥
  · rw [hx, EReal.bot_sub, Ideal.exp_bot, zero_mul, zero_mul]
  · rw [hv x hx]

/-! ### The result -/

/-- The arguments of the call. -/
structure Arr where
  q : A3 8 8192 384
  kv : A3 8 8192 768
  gate : A3 8 8192 384
  rel : A2 6 513
  ya : A3 8 8192 256
  yb : A3 8 8192 384
  x : A3 8 8192 1024
  g1 : A3 8 1 1024
  w : A2 1024 1024
  g : A1 1024
  b : A1 1024

/-- The attention of query `r` of chunk `n` at lane `l` of 384, before its gate. -/
def att (a : Arr) (b : Fin 8) (n : Fin 128) (r : Fin 64) (l : Fin 384) : EReal :=
  attn (score a.q a.kv a.rel b n ⟨l.val / 64, by omega⟩ r) (value a.kv b n l)

/-- The row of the three mixers, joined, at frame `T`. -/
def mix (a : Arr) (b : Fin 8) (T : Fin 8192) (w : Fin 1024) : EReal :=
  if h : w.val < 256 then a.ya (ix3 b T ⟨w.val, h⟩)
  else if h' : w.val - 256 < 384 then a.yb (ix3 b T ⟨w.val - 256, h'⟩)
  else a.gate (ix3 b T ⟨w.val - 640, by omega⟩)
    * att a b ⟨T.val / 64, by omega⟩ ⟨T.val % 64, by omega⟩ ⟨w.val - 640, by omega⟩

/-- The row before its normalization. -/
def resid (a : Arr) (b : Fin 8) (T : Fin 8192) (j : Fin 1024) : EReal :=
  Ideal.ofBits .f32 1068827891#32 * a.x (ix3 b T j) + a.g1 (ix3 b 0 j) * ∑ w, mix a b T w * a.w (ix2 w j)

def mean (z : Fin 1024 → EReal) : EReal := Ideal.div (∑ x, z x) (Ideal.ofBits .f32 1149239296#32)

/-- The layer normalization of a row, at `j`. -/
def lnorm (z : Fin 1024 → EReal) (g b : A1 1024) (j : Fin 1024) : EReal :=
  (z j - mean z) * Ideal.rsqrt (mean (fun x => (z x - mean z) * (z x - mean z)) + Ideal.ofBits .f32 925353388#32)
    * g (ix1 j) + b (ix1 j)

def result (a : Arr) : A3 8 8192 1024 := fun i => lnorm (resid a (i 0) (i 1)) a.g a.b (i 2)

end Cert.Att
-- ==== Proof.Tile.lean ====
module

public import Idealize.ShloMosaic.Lib.Pipeline.ValueKit
public import Idealize.ShloMosaic.Lib.Pipeline.ReadBack
public import Idealize.ShloMosaic.Lib.Pointwise
public import proofs.«01_k».proof.Proof.Gen.KernelIdeal.Skeleton
public import proofs.«01_k».proof.Proof.Spec

@[expose] public section

set_option maxRecDepth 16384

noncomputable section

namespace Cert.KernelIdeal.Att

open Idealize.ShloMosaic Idealize.ShloMosaic.Tactic Idealize.ShloMosaic.Pointwise Cert.KernelIdeal.Gen Cert.Att

variable {F : FTy → Type} [FloatOps F]

/-- What the body stores for one chunk of 64 queries and one pair of heads: the pair's queries, the keys and values of the chunk's band, the
    bias tile and the gate. -/
def tile (q : Vec F S1x64x128 .bf16) (k v : Vec F S576x128 .bf16) (b : Vec F S1x1x128x576 .f32) (g : Vec F S1x64x128 .f32) : FVec F S64x128 .bf16 :=
  k0_pay79 k0_pay69 (k0_pay71 (k0_pay70 q k) b) v g

theorem low_word (r : Fin 128) : IntOp.cmpi CmpIPredicate.slt (BitVec.ofNat 32 r) 64#32 = BitVec.ofBool (decide (r.val < 64)) := by
  revert r; decide

theorem eighth_out (q k : EReal) : q * Ideal.ofBits .bf16 15872#16 * k = q * k * (((1 : ℝ) / 8 : ℝ) : EReal) := by
  rw [eighth_bf16, mul_right_comm]

/-- The pair's product against the first head alone is that head's. -/
theorem low_sum (q k : Fin 128 → EReal) :
    ∑ x, Scalar.select (BitVec.ofBool (decide (x.val < 64))) (q x * Ideal.ofBits .bf16 15872#16 * k x) 0
      = (∑ d : Fin 64, q ⟨d.val, by omega⟩ * k ⟨d.val, by omega⟩) * (((1 : ℝ) / 8 : ℝ) : EReal) := by
  simp only [eighth_out]
  rw [sum_mul_coe _ _ _ (by norm_num)]
  refine (Fin.sum_univ_add (a := 64) (b := 64) _).trans ?_
  refine (congrArg₂ (fun a b : EReal => a + b) (Finset.sum_congr rfl fun d _ => ?_) (Finset.sum_eq_zero fun d _ => ?_)).trans (add_zero _)
  · have h : (Fin.castAdd 64 d).val < 64 := d.isLt
    simp only [h, decide_true]; rfl
  · have h : ¬ (Fin.natAdd 64 d).val < 64 := by simp
    simp only [h, decide_false]; rfl

theorem high_sum (q k : Fin 128 → EReal) :
    ∑ x, Scalar.select (BitVec.ofBool (decide (x.val < 64))) 0 (q x * Ideal.ofBits .bf16 15872#16 * k x)
      = (∑ d : Fin 64, q ⟨64 + d.val, by omega⟩ * k ⟨64 + d.val, by omega⟩) * (((1 : ℝ) / 8 : ℝ) : EReal) := by
  simp only [eighth_out]
  rw [sum_mul_coe _ _ _ (by norm_num)]
  refine (Fin.sum_univ_add (a := 64) (b := 64) _).trans ?_
  refine (congrArg₂ (fun a b : EReal => a + b) (Finset.sum_eq_zero fun d _ => ?_) (Finset.sum_congr rfl fun d _ => ?_)).trans (zero_add _)
  · have h : (Fin.castAdd 64 d).val < 64 := d.isLt
    simp only [h, decide_true]; rfl
  · have h : ¬ (Fin.natAdd 64 d).val < 64 := by simp
    simp only [h, decide_false]; rfl

theorem select_attn (l : Fin 128) (s₁ s₂ s v : Fin 576 → EReal) (h₁ : l.val < 64 → ∀ x, s₁ x = s x) (h₂ : ¬ l.val < 64 → ∀ x, s₂ x = s x) :
    Scalar.select (BitVec.ofBool (decide (l.val < 64))) (attn s₁ v) (attn s₂ v) = attn s v := by
  by_cases h : l.val < 64
  · rw [funext (h₁ h)]; simp only [h, decide_true]; rfl
  · rw [funext (h₂ h)]; simp only [h, decide_false]; rfl

/-- One stored element: the gate times the attention of its head. -/
theorem tile_apply (q : Vec Ideal S1x64x128 .bf16) (k v : Vec Ideal S576x128 .bf16) (b : Vec Ideal S1x1x128x576 .f32) (g : Vec Ideal S1x64x128 .f32)
    (r : Fin 64) (l : Fin 128) :
    tile q k v b g (ix2 r l) = g (ix3 0 r l) * attn (fun x => (∑ d : Fin 64, q (ix3 0 r ⟨l.val / 64 * 64 + d.val, by omega⟩) * k (ix2 x ⟨l.val / 64 * 64 + d.val, by omega⟩)) * (((1 : ℝ) / 8 : ℝ) : EReal)
      + b (ix4 0 0 ⟨l.val / 64 * 64 + r.val, by omega⟩ x)) (fun x => v (ix2 x l)) := by
  pointwise [tile, k0_pay79, k0_pay69, k0_pay71, k0_pay70]
  simp only [low_word]
  refine congrArg (fun a : EReal => g (ix3 0 r l) * a) (select_attn l _ _ _ _ (fun h x => ?_) fun h x => ?_)
  · refine congrArg₂ (fun a b : EReal => a + b) ((low_sum (fun x => q (ix3 0 r x)) fun d => k (ix2 x d)).trans ?_) ?_
    · have e : l.val / 64 * 64 = 0 := by omega
      simp only [e, Nat.zero_add]
    · have e : l.val / 64 * 64 = 0 := by omega
      simp only [e, Nat.zero_add]
  · refine congrArg₂ (fun a b : EReal => a + b) ((high_sum (fun x => q (ix3 0 r x)) fun d => k (ix2 x d)).trans ?_) ?_
    · have e : l.val / 64 * 64 = 64 := by omega
      simp only [e]
    · have e : l.val / 64 * 64 = 64 := by omega
      simp only [e]

end Cert.KernelIdeal.Att
-- ==== Proof.Block.lean ====
module

public import proofs.«01_k».proof.Proof.Tile
public import Idealize.ShloMosaic.Lib.Tactic
public import Idealize.ShloMosaic.Lib.Ring

@[expose] public section

set_option maxRecDepth 16384
set_option pp.maxSteps 1000000
set_option pp.deepTerms true
set_option pp.proofs false

noncomputable section

namespace Cert.KernelIdeal.Att

open Idealize.ShloMosaic Idealize.ShloMosaic.Tactic Idealize.ShloMosaic.Pointwise Cert.KernelIdeal.Gen Cert.Att

/-- The keys and values a block of 1024 queries reads: the 512 rows before it, then its own. -/
def band {F : FTy → Type} (x₁ : Vec F S1x512x768 .bf16) (x₂ : Vec F S1x1024x768 .bf16) : Vec F S1536x768 .bf16 := fun i =>
  if h : (i 0).val < 512 then x₁ (ix3 0 ⟨(i 0).val, h⟩ (i 1))
  else x₂ (ix3 0 ⟨(i 0).val - 512, Nat.sub_lt_left_of_lt_add (Nat.le_of_not_lt h) (show (i 0).val < 512 + 1024 from (i 0).isLt)⟩ (i 1))

/-- The table of the bias that chunk `c` of a block reads: in the sequence's first block the first eight chunks have a table each. -/
def tab (f c : ℕ) : ℕ := if f = 0 ∧ c < 8 then c + 1 else 0

theorem tab_lt (f c : ℕ) : tab f c < 9 := by unfold tab; split <;> omega

/-- What the block's gated attention holds. -/
def ycS (f : ℕ) (x₀ : Vec Ideal S1x1024x384 .bf16) (K : Vec Ideal S1536x768 .bf16) (x₃ : Vec Ideal S1x1024x384 .f32) (bs : Vec Ideal S9x3x128x576 .f32)
    (r : Fin 1024) (l : Fin 384) : EReal :=
  x₃ (ix3 0 r l) * attn (fun x => (∑ d : Fin 64, x₀ (ix3 0 r ⟨l.val / 64 * 64 + d.val, by omega⟩)
        * K (ix2 ⟨r.val / 64 * 64 + x.val, by omega⟩ ⟨l.val / 64 * 64 + d.val, by omega⟩)) * (((1 : ℝ) / 8 : ℝ) : EReal)
      + bs (ix4 ⟨tab f (r.val / 64), tab_lt _ _⟩ ⟨l.val / 128, by omega⟩ ⟨l.val / 64 % 2 * 64 + r.val % 64, by omega⟩ x))
    (fun x => K (ix2 ⟨r.val / 64 * 64 + x.val, by omega⟩ ⟨384 + l.val, by omega⟩))

def ycV (f : ℕ) (x₀ : Vec Ideal S1x1024x384 .bf16) (K : Vec Ideal S1536x768 .bf16) (x₃ : Vec Ideal S1x1024x384 .f32) (bs : Vec Ideal S9x3x128x576 .f32) :
    Vec Ideal S1024x384 .bf16 := fun i => ycS f x₀ K x₃ bs (i 0) (i 1)

/-- Every store of the block is its part of `ycV`. -/
theorem piece (f : ℕ) (x₀ : Vec Ideal S1x1024x384 .bf16) (K : Vec Ideal S1536x768 .bf16) (x₃ : Vec Ideal S1x1024x384 .f32) (bs : Vec Ideal S9x3x128x576 .f32)
    (c pr : ℕ) (hc : c < 16) (hp : pr < 3) (boff : Fin S9x3x128x576.rank → ℕ) (hb0 : boff 0 = tab f c) (hb1 : boff 1 = pr) (hb2 : boff 2 = 0) (hb3 : boff 3 = 0)
    (h1) (h2) (h3) (h4) (h5) (h6) (x : (Rect.unit (s := S1024x384) ![64 * c, 128 * pr] ![64, 128] h6).shape.Idx) :
    tile (F := Ideal) (View.ld x₀ (Rect.unit ![0, 64 * c, 128 * pr] ![1, 64, 128] h1)) (View.ld K (Rect.unit ![64 * c, 128 * pr] ![576, 128] h2))
      (View.ld K (Rect.unit ![64 * c, 384 + 128 * pr] ![576, 128] h3)) (View.ld bs (Rect.unit boff ![1, 1, 128, 576] h4))
      (View.ld x₃ (Rect.unit ![0, 64 * c, 128 * pr] ![1, 64, 128] h5)) x
      = ycV f x₀ K x₃ bs ((Rect.unit (s := S1024x384) ![64 * c, 128 * pr] ![64, 128] h6).emb x) := by
  obtain ⟨r, l, rfl⟩ : ∃ (r : Fin 64) (l : Fin 128), x = ix2 r l := ⟨x 0, x 1, by funext a; fin_cases a <;> rfl⟩
  have e : (Rect.unit (s := S1024x384) ![64 * c, 128 * pr] ![64, 128] h6).emb (ix2 r l) = ix2 ⟨64 * c + r.val, by omega⟩ ⟨128 * pr + l.val, by omega⟩ := by
    funext a; fin_cases a <;> exact Fin.ext (by show _ + 1 * _ = _; rw [Nat.one_mul]; rfl)
  rw [e]
  refine (tile_apply _ _ _ _ _ r l).trans ?_
  show _ = ycS f x₀ K x₃ bs ⟨64 * c + r.val, by omega⟩ ⟨128 * pr + l.val, by omega⟩
  unfold ycS
  have eq0 : ∀ h (a : Fin 128), View.ld x₀ (Rect.unit (s := S1x1024x384) ![0, 64 * c, 128 * pr] ![1, 64, 128] h) (ix3 0 r a)
      = x₀ (ix3 0 ⟨64 * c + r.val, by omega⟩ ⟨128 * pr + a.val, by omega⟩) := fun h a =>
    View.ld_unit_apply_of _ _ _ _ _ _ (by intro b; fin_cases b <;> rfl)
  have eq3 : ∀ h (a : Fin 128), View.ld x₃ (Rect.unit (s := S1x1024x384) ![0, 64 * c, 128 * pr] ![1, 64, 128] h) (ix3 0 r a)
      = x₃ (ix3 0 ⟨64 * c + r.val, by omega⟩ ⟨128 * pr + a.val, by omega⟩) := fun h a =>
    View.ld_unit_apply_of _ _ _ _ _ _ (by intro b; fin_cases b <;> rfl)
  have ek : ∀ (o : ℕ) h (x : Fin 576) (a : Fin 128) (ho : o + a.val < 768), View.ld K (Rect.unit (s := S1536x768) ![64 * c, o] ![576, 128] h) (ix2 x a)
      = K (ix2 ⟨64 * c + x.val, by omega⟩ ⟨o + a.val, ho⟩) := fun o h x a ho =>
    View.ld_unit_apply_of _ _ _ _ _ _ (by intro b; fin_cases b <;> rfl)
  have eb : ∀ (a : Fin 128) (x : Fin 576), View.ld bs (Rect.unit (s := S9x3x128x576) boff ![1, 1, 128, 576] h4) (ix4 0 0 a x)
      = bs (ix4 ⟨tab f c, tab_lt _ _⟩ ⟨pr, hp⟩ a x) := fun a x =>
    View.ld_unit_apply_of _ _ _ _ _ _ (by
      intro b
      fin_cases b
      · show tab f c = boff 0 + 0; omega
      · show pr = boff 1 + 0; omega
      · show a.val = boff 2 + a.val; omega
      · show x.val = boff 3 + x.val; omega)
  have c1 : (128 * pr + l.val) / 64 * 64 = 128 * pr + l.val / 64 * 64 := by omega
  have c2 : (64 * c + r.val) / 64 = c := by omega
  have c3 : (128 * pr + l.val) / 128 = pr := by omega
  have c4 : (128 * pr + l.val) / 64 % 2 * 64 + (64 * c + r.val) % 64 = l.val / 64 * 64 + r.val := by omega
  have hl := l.isLt
  simp only [eq0, eq3, eb]
  congr 1
  congr 1
  · funext x
    have hx := x.isLt
    congr 1
    · congr 1
      refine Finset.sum_congr rfl fun d _ => ?_
      have hd := d.isLt
      rw [ek _ _ _ _ (by show _ + (_ + _) < _; omega)]
      congr 1
      · congr 3; omega
      · refine congrArg K (congrArg₂ ix2 (Fin.ext ?_) (Fin.ext ?_))
        · show 64 * c + x.val = (64 * c + r.val) / 64 * 64 + x.val
          omega
        · show 128 * pr + (l.val / 64 * 64 + d.val) = (128 * pr + l.val) / 64 * 64 + d.val
          omega
    · congr 1
      refine congr (congr (congr (congrArg ix4 ?_) ?_) ?_) rfl <;> apply Fin.ext <;> simp only [] <;> first | rw [c2] | omega
  · funext x
    have hx := x.isLt
    rw [ek _ _ _ _ (by omega)]
    congr 3 <;> omega

/-- The two stores of the keys and values hold `band`. -/
theorem canon_band {F : FTy → Type} [FloatOps F] (x₁ : Vec F S1x512x768 .bf16) (x₂ : Vec F S1x1024x768 .bf16) (h1) (h2) (y : S1536x768.Idx) :
    View.canon (Val := Elt F) [⟨Rect.unit ![512, 0] ![1024, 768] h1, k0_pay68 x₂⟩, ⟨Rect.unit ![0, 0] ![512, 768] h2, k0_pay67 x₁⟩] y = band x₁ x₂ y := by
  refine View.canon_apply_of_pieces (band x₁ x₂) _ ?_ y ?_
  · intro p hp x
    simp only [List.mem_cons, List.not_mem_nil, or_false] at hp
    rcases hp with rfl | rfl
    · obtain ⟨r, l, rfl⟩ : ∃ (r : Fin 1024) (l : Fin 768), x = ix2 r l := ⟨x 0, x 1, by funext a; fin_cases a <;> rfl⟩
      have e : (Rect.unit (s := S1536x768) ![512, 0] ![1024, 768] h1).emb (ix2 r l) = ix2 ⟨512 + r.val, by omega⟩ l := by
        funext a; fin_cases a <;> exact Fin.ext (by show _ + 1 * _ = _; rw [Nat.one_mul]; first | rfl | exact Nat.zero_add _)
      rw [e]
      refine Eq.trans ?_ (dif_neg (by show ¬ (512 + r.val < 512); omega)).symm
      show k0_pay68 x₂ (ix2 r l) = x₂ (ix3 0 ⟨512 + r.val - 512, _⟩ l)
      pointwise [k0_pay68]
    · obtain ⟨r, l, rfl⟩ : ∃ (r : Fin 512) (l : Fin 768), x = ix2 r l := ⟨x 0, x 1, by funext a; fin_cases a <;> rfl⟩
      have e : (Rect.unit (s := S1536x768) ![0, 0] ![512, 768] h2).emb (ix2 r l) = ix2 ⟨r.val, by omega⟩ l := by
        funext a; fin_cases a <;> exact Fin.ext (by show _ + 1 * _ = _; rw [Nat.one_mul]; exact Nat.zero_add _)
      rw [e]
      refine Eq.trans ?_ (dif_pos r.isLt).symm
      show k0_pay67 x₁ (ix2 r l) = x₁ (ix3 0 r l)
      pointwise [k0_pay67]
  · have h0 : (y 0).val < 1536 := (y 0).isLt
    have h1' : (y 1).val < 768 := (y 1).isLt
    by_cases h : (y 0).val < 512
    · refine ⟨⟨Rect.unit ![0, 0] ![512, 768] h2, k0_pay67 x₁⟩, by simp, (Rect.mem_set_unit (inb := h2)).mpr ?_⟩
      intro a
      fin_cases a
      · exact ⟨Nat.zero_le _, by show (y 0).val < 0 + 512; omega⟩
      · exact ⟨Nat.zero_le _, by show (y 1).val < 0 + 768; omega⟩
    · refine ⟨⟨Rect.unit ![512, 0] ![1024, 768] h1, k0_pay68 x₂⟩, by simp, (Rect.mem_set_unit (inb := h1)).mpr ?_⟩
      intro a
      fin_cases a
      · exact ⟨by show 512 ≤ (y 0).val; omega, by show (y 0).val < 512 + 1024; omega⟩
      · exact ⟨Nat.zero_le _, by show (y 1).val < 0 + 768; omega⟩

/-- A read of the keys and values after the two stores is a read of `band`. -/
theorem band_load {F : FTy → Type} [FloatOps F] (x₁ : Vec F S1x512x768 .bf16) (x₂ : Vec F S1x1024x768 .bf16) (h1) (h2) (off size : Fin S1536x768.rank → ℕ) (h)
    (v : View sig .tc .vmem S1536x768 .bf16) :
    v.readCov (Val := Elt F) [⟨Rect.unit ![512, 0] ![1024, 768] h1, k0_pay68 x₂⟩, ⟨Rect.unit ![0, 0] ![512, 768] h2, k0_pay67 x₁⟩]
        (Rect.unit off size h).toLoadRect
      = View.ld (band x₁ x₂) (Rect.unit off size h) := by
  refine (View.readCov_eq_canon' _ _ _).trans ?_
  funext j
  exact canon_band x₁ x₂ h1 h2 _

end Cert.KernelIdeal.Att
-- ==== Proof.BlockB.lean ====
module

public import Idealize.ShloMosaic.Lib.Pipeline.ValueKit
public import Idealize.ShloMosaic.Lib.Pipeline.ReadBack
public import Idealize.ShloMosaic.Lib.Pointwise
public import proofs.«01_k».proof.Proof.Block
public import proofs.«01_k».proof.Proof.Gen.KernelIdeal.Value

@[expose] public section

set_option maxRecDepth 16384
set_option maxHeartbeats 4000000

noncomputable section

namespace Cert.KernelIdeal.Att

open Idealize.ShloMosaic Idealize.ShloMosaic.Tactic Cert.KernelIdeal.Gen

variable (m : (ℓ : Loc nD τ sig) → Buf (Elt Ideal) ℓ)

/-- Where the first eight chunks read the bias: the sequence's first block has a table for each. -/
theorem table_word : ∀ (n c : Fin 8), (Scalar.indexCast (Scalar.select (Scalar.cmpi .eq (BitVec.ofNat 32 n.val) 0#32) (BitVec.ofNat 32 (c.val + 1)) 0#32)).toNat
    = tab n.val c.val := by decide

theorem off1_tab (i : grid0.Coords) (c : ℕ) (hc : c < 8) : k0_off1 i (BitVec.ofNat 32 (c + 1)) 0 = tab (i 1).val c := table_word (i 1) ⟨c, hc⟩
theorem off2_tab (i : grid0.Coords) (c : ℕ) (hc : c < 8) : k0_off2 i (BitVec.ofNat 32 (c + 1)) 0 = tab (i 1).val c := table_word (i 1) ⟨c, hc⟩
theorem off3_tab (i : grid0.Coords) (c : ℕ) (hc : c < 8) : k0_off3 i (BitVec.ofNat 32 (c + 1)) 0 = tab (i 1).val c := table_word (i 1) ⟨c, hc⟩

theorem tab_high (f c : ℕ) (hc : 8 ≤ c) : 0 = tab f c := (if_neg fun h => absurd h.2 (Nat.not_lt.mpr hc)).symm

/-- The rest of a block: the projection of the three parts and the norm, from the gated attention. -/
def blk {F : FTy → Type} [FloatOps F] (x₅ : Vec F S1x1024x256 .bf16) (x₆ : Vec F S1x1024x384 .bf16) (x₇ : Vec F S1x1024x1024 .f32) (x₈ : Vec F S1x1x1024 .f32)
    (x₉ : Vec F S1024x1024 .bf16) (x₁₀ x₁₁ : Vec F S1x1024 .f32) (Y : FVec F S1024x384 .bf16) : FVec F S1x1024x1024 .f32 :=
  k0_pay1 (k0_pay227 (k0_pay224 x₇) (k0_pay225 x₈) (k0_pay226 x₅ x₆ Y x₉)) (k0_pay228 (k0_pay224 x₇) (k0_pay225 x₈) (k0_pay226 x₅ x₆ Y x₉)) x₁₀ x₁₁

/-- A read of the whole gated attention after its 48 stores. -/
theorem read_whole (v : View sig .tc .vmem S1024x384 .bf16) (G : Vec Ideal S1024x384 .bf16) (r : Rect S1024x384) (w) (L : List (View.Piece (Elt Ideal) S1024x384 .bf16)) (h)
    (hp : View.PiecesOf G ((⟨r, w⟩ : View.Piece (Elt Ideal) S1024x384 .bf16) :: L)) (ht : View.Piece.tiled ((⟨r, w⟩ : View.Piece (Elt Ideal) S1024x384 .bf16) :: L) r.size = true) :
    v.readCov (⟨r, w⟩ :: L) (Rect.unit ![0, 0] ![1024, 384] h).toLoadRect = G := by
  refine (View.readCov_eq_canon' _ _ _).trans (funext fun j => ?_)
  refine (View.canon_apply_of_pieces G _ hp.mem _ (View.cover_of_tiled_head _ _ _ ht _)).trans (congrArg G ?_)
  funext a
  fin_cases a <;> exact Fin.ext (by show 0 + 1 * _ = _; omega)

theorem tile_inb (c p : ℕ) (hc : c < 16) (hp : p < 3) : ∀ a : Fin 2, (![64 * c, 128 * p] : Fin 2 → ℕ) a + (![64, 128] : Fin 2 → ℕ) a ≤ S1024x384.size a := fun a => by
  fin_cases a
  · show 64 * c + 64 ≤ 1024; omega
  · show 128 * p + 128 ≤ 384; omega

/-- A block after the first, from its own windows and the bias tables of the point before. -/
theorem block_B (c : Dev nD) (t : Fin cfg0.N) (h0 : ¬t.val % 64 = 0) :
    (outsAt0 m c t.val t.isLt).1 = blk (iblk m c 5 t) (iblk m c 6 t) (iblk m c 7 t) (iblk m c 8 t) (iblk m c 9 t) (iblk m c 10 t) (iblk m c 11 t)
      (ycV (grid0.coords t 1).val (iblk m c 0 t) (band (iblk m c 1 t) (iblk m c 2 t)) (iblk m c 3 t) (outsAt0 m c (t.val - 1) (Nat.lt_of_le_of_lt (Nat.sub_le _ _) t.isLt)).2) := by
  rw [outsAt0_B m c t h0]
  frame_open
  simp (disch := decide) only [↓ View.readCov_skip, ↓ View.readCov_cons_toLoadRect, ↓ View.readCov_fill]
  frame_out
  simp only [read_unread_whole]
  simp only [band_load]
  refine congrArg (blk (iblk m c 5 t) (iblk m c 6 t) (iblk m c 7 t) (iblk m c 8 t) (iblk m c 9 t) (iblk m c 10 t) (iblk m c 11 t)) ?_
  refine read_whole _ _ _ _ _ _ ?_ (by rfl)
  exact ⟨
    fun x => piece (grid0.coords t 1).val _ _ _ _ 15 2 (by decide) (by decide) _ (tab_high _ 15 (by decide)) rfl rfl rfl _ _ _ _ _ (tile_inb 15 2 (by decide) (by decide)) x,
    fun x => piece (grid0.coords t 1).val _ _ _ _ 15 1 (by decide) (by decide) _ (tab_high _ 15 (by decide)) rfl rfl rfl _ _ _ _ _ (tile_inb 15 1 (by decide) (by decide)) x,
    fun x => piece (grid0.coords t 1).val _ _ _ _ 15 0 (by decide) (by decide) _ (tab_high _ 15 (by decide)) rfl rfl rfl _ _ _ _ _ (tile_inb 15 0 (by decide) (by decide)) x,
    fun x => piece (grid0.coords t 1).val _ _ _ _ 14 2 (by decide) (by decide) _ (tab_high _ 14 (by decide)) rfl rfl rfl _ _ _ _ _ (tile_inb 14 2 (by decide) (by decide)) x,
    fun x => piece (grid0.coords t 1).val _ _ _ _ 14 1 (by decide) (by decide) _ (tab_high _ 14 (by decide)) rfl rfl rfl _ _ _ _ _ (tile_inb 14 1 (by decide) (by decide)) x,
    fun x => piece (grid0.coords t 1).val _ _ _ _ 14 0 (by decide) (by decide) _ (tab_high _ 14 (by decide)) rfl rfl rfl _ _ _ _ _ (tile_inb 14 0 (by decide) (by decide)) x,
    fun x => piece (grid0.coords t 1).val _ _ _ _ 13 2 (by decide) (by decide) _ (tab_high _ 13 (by decide)) rfl rfl rfl _ _ _ _ _ (tile_inb 13 2 (by decide) (by decide)) x,
    fun x => piece (grid0.coords t 1).val _ _ _ _ 13 1 (by decide) (by decide) _ (tab_high _ 13 (by decide)) rfl rfl rfl _ _ _ _ _ (tile_inb 13 1 (by decide) (by decide)) x,
    fun x => piece (grid0.coords t 1).val _ _ _ _ 13 0 (by decide) (by decide) _ (tab_high _ 13 (by decide)) rfl rfl rfl _ _ _ _ _ (tile_inb 13 0 (by decide) (by decide)) x,
    fun x => piece (grid0.coords t 1).val _ _ _ _ 12 2 (by decide) (by decide) _ (tab_high _ 12 (by decide)) rfl rfl rfl _ _ _ _ _ (tile_inb 12 2 (by decide) (by decide)) x,
    fun x => piece (grid0.coords t 1).val _ _ _ _ 12 1 (by decide) (by decide) _ (tab_high _ 12 (by decide)) rfl rfl rfl _ _ _ _ _ (tile_inb 12 1 (by decide) (by decide)) x,
    fun x => piece (grid0.coords t 1).val _ _ _ _ 12 0 (by decide) (by decide) _ (tab_high _ 12 (by decide)) rfl rfl rfl _ _ _ _ _ (tile_inb 12 0 (by decide) (by decide)) x,
    fun x => piece (grid0.coords t 1).val _ _ _ _ 11 2 (by decide) (by decide) _ (tab_high _ 11 (by decide)) rfl rfl rfl _ _ _ _ _ (tile_inb 11 2 (by decide) (by decide)) x,
    fun x => piece (grid0.coords t 1).val _ _ _ _ 11 1 (by decide) (by decide) _ (tab_high _ 11 (by decide)) rfl rfl rfl _ _ _ _ _ (tile_inb 11 1 (by decide) (by decide)) x,
    fun x => piece (grid0.coords t 1).val _ _ _ _ 11 0 (by decide) (by decide) _ (tab_high _ 11 (by decide)) rfl rfl rfl _ _ _ _ _ (tile_inb 11 0 (by decide) (by decide)) x,
    fun x => piece (grid0.coords t 1).val _ _ _ _ 10 2 (by decide) (by decide) _ (tab_high _ 10 (by decide)) rfl rfl rfl _ _ _ _ _ (tile_inb 10 2 (by decide) (by decide)) x,
    fun x => piece (grid0.coords t 1).val _ _ _ _ 10 1 (by decide) (by decide) _ (tab_high _ 10 (by decide)) rfl rfl rfl _ _ _ _ _ (tile_inb 10 1 (by decide) (by decide)) x,
    fun x => piece (grid0.coords t 1).val _ _ _ _ 10 0 (by decide) (by decide) _ (tab_high _ 10 (by decide)) rfl rfl rfl _ _ _ _ _ (tile_inb 10 0 (by decide) (by decide)) x,
    fun x => piece (grid0.coords t 1).val _ _ _ _ 9 2 (by decide) (by decide) _ (tab_high _ 9 (by decide)) rfl rfl rfl _ _ _ _ _ (tile_inb 9 2 (by decide) (by decide)) x,
    fun x => piece (grid0.coords t 1).val _ _ _ _ 9 1 (by decide) (by decide) _ (tab_high _ 9 (by decide)) rfl rfl rfl _ _ _ _ _ (tile_inb 9 1 (by decide) (by decide)) x,
    fun x => piece (grid0.coords t 1).val _ _ _ _ 9 0 (by decide) (by decide) _ (tab_high _ 9 (by decide)) rfl rfl rfl _ _ _ _ _ (tile_inb 9 0 (by decide) (by decide)) x,
    fun x => piece (grid0.coords t 1).val _ _ _ _ 8 2 (by decide) (by decide) _ (tab_high _ 8 (by decide)) rfl rfl rfl _ _ _ _ _ (tile_inb 8 2 (by decide) (by decide)) x,
    fun x => piece (grid0.coords t 1).val _ _ _ _ 8 1 (by decide) (by decide) _ (tab_high _ 8 (by decide)) rfl rfl rfl _ _ _ _ _ (tile_inb 8 1 (by decide) (by decide)) x,
    fun x => piece (grid0.coords t 1).val _ _ _ _ 8 0 (by decide) (by decide) _ (tab_high _ 8 (by decide)) rfl rfl rfl _ _ _ _ _ (tile_inb 8 0 (by decide) (by decide)) x,
    fun x => piece (grid0.coords t 1).val _ _ _ _ 7 2 (by decide) (by decide) _ (off3_tab _ 7 (by decide)) rfl rfl rfl _ _ _ _ _ (tile_inb 7 2 (by decide) (by decide)) x,
    fun x => piece (grid0.coords t 1).val _ _ _ _ 7 1 (by decide) (by decide) _ (off2_tab _ 7 (by decide)) rfl rfl rfl _ _ _ _ _ (tile_inb 7 1 (by decide) (by decide)) x,
    fun x => piece (grid0.coords t 1).val _ _ _ _ 7 0 (by decide) (by decide) _ (off1_tab _ 7 (by decide)) rfl rfl rfl _ _ _ _ _ (tile_inb 7 0 (by decide) (by decide)) x,
    fun x => piece (grid0.coords t 1).val _ _ _ _ 6 2 (by decide) (by decide) _ (off3_tab _ 6 (by decide)) rfl rfl rfl _ _ _ _ _ (tile_inb 6 2 (by decide) (by decide)) x,
    fun x => piece (grid0.coords t 1).val _ _ _ _ 6 1 (by decide) (by decide) _ (off2_tab _ 6 (by decide)) rfl rfl rfl _ _ _ _ _ (tile_inb 6 1 (by decide) (by decide)) x,
    fun x => piece (grid0.coords t 1).val _ _ _ _ 6 0 (by decide) (by decide) _ (off1_tab _ 6 (by decide)) rfl rfl rfl _ _ _ _ _ (tile_inb 6 0 (by decide) (by decide)) x,
    fun x => piece (grid0.coords t 1).val _ _ _ _ 5 2 (by decide) (by decide) _ (off3_tab _ 5 (by decide)) rfl rfl rfl _ _ _ _ _ (tile_inb 5 2 (by decide) (by decide)) x,
    fun x => piece (grid0.coords t 1).val _ _ _ _ 5 1 (by decide) (by decide) _ (off2_tab _ 5 (by decide)) rfl rfl rfl _ _ _ _ _ (tile_inb 5 1 (by decide) (by decide)) x,
    fun x => piece (grid0.coords t 1).val _ _ _ _ 5 0 (by decide) (by decide) _ (off1_tab _ 5 (by decide)) rfl rfl rfl _ _ _ _ _ (tile_inb 5 0 (by decide) (by decide)) x,
    fun x => piece (grid0.coords t 1).val _ _ _ _ 4 2 (by decide) (by decide) _ (off3_tab _ 4 (by decide)) rfl rfl rfl _ _ _ _ _ (tile_inb 4 2 (by decide) (by decide)) x,
    fun x => piece (grid0.coords t 1).val _ _ _ _ 4 1 (by decide) (by decide) _ (off2_tab _ 4 (by decide)) rfl rfl rfl _ _ _ _ _ (tile_inb 4 1 (by decide) (by decide)) x,
    fun x => piece (grid0.coords t 1).val _ _ _ _ 4 0 (by decide) (by decide) _ (off1_tab _ 4 (by decide)) rfl rfl rfl _ _ _ _ _ (tile_inb 4 0 (by decide) (by decide)) x,
    fun x => piece (grid0.coords t 1).val _ _ _ _ 3 2 (by decide) (by decide) _ (off3_tab _ 3 (by decide)) rfl rfl rfl _ _ _ _ _ (tile_inb 3 2 (by decide) (by decide)) x,
    fun x => piece (grid0.coords t 1).val _ _ _ _ 3 1 (by decide) (by decide) _ (off2_tab _ 3 (by decide)) rfl rfl rfl _ _ _ _ _ (tile_inb 3 1 (by decide) (by decide)) x,
    fun x => piece (grid0.coords t 1).val _ _ _ _ 3 0 (by decide) (by decide) _ (off1_tab _ 3 (by decide)) rfl rfl rfl _ _ _ _ _ (tile_inb 3 0 (by decide) (by decide)) x,
    fun x => piece (grid0.coords t 1).val _ _ _ _ 2 2 (by decide) (by decide) _ (off3_tab _ 2 (by decide)) rfl rfl rfl _ _ _ _ _ (tile_inb 2 2 (by decide) (by decide)) x,
    fun x => piece (grid0.coords t 1).val _ _ _ _ 2 1 (by decide) (by decide) _ (off2_tab _ 2 (by decide)) rfl rfl rfl _ _ _ _ _ (tile_inb 2 1 (by decide) (by decide)) x,
    fun x => piece (grid0.coords t 1).val _ _ _ _ 2 0 (by decide) (by decide) _ (off1_tab _ 2 (by decide)) rfl rfl rfl _ _ _ _ _ (tile_inb 2 0 (by decide) (by decide)) x,
    fun x => piece (grid0.coords t 1).val _ _ _ _ 1 2 (by decide) (by decide) _ (off3_tab _ 1 (by decide)) rfl rfl rfl _ _ _ _ _ (tile_inb 1 2 (by decide) (by decide)) x,
    fun x => piece (grid0.coords t 1).val _ _ _ _ 1 1 (by decide) (by decide) _ (off2_tab _ 1 (by decide)) rfl rfl rfl _ _ _ _ _ (tile_inb 1 1 (by decide) (by decide)) x,
    fun x => piece (grid0.coords t 1).val _ _ _ _ 1 0 (by decide) (by decide) _ (off1_tab _ 1 (by decide)) rfl rfl rfl _ _ _ _ _ (tile_inb 1 0 (by decide) (by decide)) x,
    fun x => piece (grid0.coords t 1).val _ _ _ _ 0 2 (by decide) (by decide) _ (off3_tab _ 0 (by decide)) rfl rfl rfl _ _ _ _ _ (tile_inb 0 2 (by decide) (by decide)) x,
    fun x => piece (grid0.coords t 1).val _ _ _ _ 0 1 (by decide) (by decide) _ (off2_tab _ 0 (by decide)) rfl rfl rfl _ _ _ _ _ (tile_inb 0 1 (by decide) (by decide)) x,
    fun x => piece (grid0.coords t 1).val _ _ _ _ 0 0 (by decide) (by decide) _ (off1_tab _ 0 (by decide)) rfl rfl rfl _ _ _ _ _ (tile_inb 0 0 (by decide) (by decide)) x,
    trivial⟩

end Cert.KernelIdeal.Att
-- ==== Proof.Bias.lean ====
module

public import Idealize.ShloMosaic.Lib.Pipeline.ValueKit
public import Idealize.ShloMosaic.Lib.Pipeline.ReadBack
public import Idealize.ShloMosaic.Lib.Pointwise
public import proofs.«01_k».proof.Proof.Gen.KernelIdeal.Skeleton
public import proofs.«01_k».proof.Proof.Spec

@[expose] public section

set_option maxRecDepth 16384
set_option maxHeartbeats 1000000

noncomputable section

namespace Cert.KernelIdeal.Att

open Idealize.ShloMosaic Idealize.ShloMosaic.Tactic Idealize.ShloMosaic.Pointwise Cert.KernelIdeal.Gen Cert.Att

/-- Row `r` of a head's bias tile is the head's row of the table turned by `r`. -/
theorem rolled_apply (v : Vec Ideal S1x640 .f32) (r : Fin 64) (x : Fin 576) :
    k0_pay56 v (ix2 r x) = v (ix2 0 ⟨(x.val + 640 - r.val) % 640, Nat.mod_lt _ (by omega)⟩) := by
  pointwise [k0_pay56]
  have hr := r.isLt
  have hx := x.isLt
  split
  · refine congrArg v (congrArg (ix2 0) (Fin.ext ?_))
    show (x.val + 1024 - r.val % 1024) % 1024 = (x.val + 640 - r.val) % 640
    omega
  · split
    · exfalso; omega
    · refine congrArg v (congrArg (ix2 0) (Fin.ext ?_))
      show 576 + ((x.val + 1024 - r.val % 1024) % 1024 - 576 - 384) = (x.val + 640 - r.val) % 640
      omega

/-- The bias tables: table 0 has a row of 576 keys for each head and query of a chunk; table `t` of the others has the same with the keys
    before the sequence struck out. -/
def biasV (e : Vec Ideal S6x640 .f32) : Vec Ideal S9x3x128x576 .f32 := fun i =>
  if (i 0).val ≠ 0 ∧ (i 3).val < (9 - (i 0).val) * 64 then (⊥ : EReal)
  else e (ix2 ⟨2 * (i 1).val + (i 2).val / 64, by
      have h1 : (i 1).val < 3 := (i 1).isLt
      have h2 : (i 2).val < 128 := (i 2).isLt
      omega⟩ ⟨((i 3).val + 640 - (i 2).val % 64) % 640, Nat.mod_lt _ (by omega)⟩)

/-- Table 0's tile for one head. -/
def whole0 {F : FTy → Type} [FloatOps F] (v : Vec F S1x640 .f32) : FVec F S1x1x64x576 .f32 := k0_pay57 v

/-- The tile of a table whose keys before `w` are struck out. -/
def struck {F : FTy → Type} [FloatOps F] (w : BitVec 32) (v : Vec F S1x640 .f32) : FVec F S1x1x64x576 .f32 :=
  shapeCast S1x1x64x576 (select (cmpi .sge (iota Kind.tc S64x576 32 [1] iota_S64x576_d1_w32) (broadcast S64x576 w)) (k0_pay56 v)
    (broadcast S64x576 (Scalar.ofBits (F := F) .f32 0xFF800000#32))) shapeCasts_S64x576_S1x1x64x576

theorem word_int (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

theorem key_word (t : ℕ) (ht : t < 9) (x : Fin 576) : IntOp.cmpi CmpIPredicate.sge (BitVec.ofNat 32 x.val) (BitVec.ofNat 32 ((9 - t) * 64))
    = BitVec.ofBool (decide ((9 - t) * 64 ≤ x.val)) := by
  have hx := x.isLt
  have e1 : (BitVec.ofNat 32 x.val).toInt = x.val := word_int _ (by omega)
  have e2 : (BitVec.ofNat 32 ((9 - t) * 64)).toInt = ((9 - t) * 64 : ℕ) := word_int _ (by omega)
  show BitVec.ofBool (decide ((BitVec.ofNat 32 ((9 - t) * 64)).toInt ≤ (BitVec.ofNat 32 x.val).toInt)) = _
  rw [e1, e2]
  simp only [Nat.cast_le]

theorem struck_apply (t : ℕ) (ht : t < 9) (v : Vec Ideal S1x640 .f32) (r : Fin 64) (x : Fin 576) :
    struck (BitVec.ofNat 32 ((9 - t) * 64)) v (ix4 0 0 r x) = if x.val < (9 - t) * 64 then (⊥ : EReal) else k0_pay56 v (ix2 r x) := by
  pointwise [struck, key_word t ht]
  rw [bot_f32]
  by_cases h : (9 - t) * 64 ≤ x.val
  · rw [if_pos h, if_neg (Nat.not_lt.mpr h)]
  · rw [if_neg h, if_pos (Nat.lt_of_not_le h)]

theorem row_at (e : Vec Ideal S6x640 .f32) (h : ℕ) (hh : h < 6) (h1) (a : Fin 640) : View.ld e (Rect.unit (s := S6x640) ![h, 0] ![1, 640] h1) (ix2 0 a)
    = e (ix2 ⟨h, hh⟩ a) :=
  View.ld_unit_apply_of _ _ _ _ _ _ (by intro b; fin_cases b <;> first | rfl | exact (Nat.zero_add _).symm)

theorem bias_piece0 (e : Vec Ideal S6x640 .f32) (pr half : ℕ) (hp : pr < 3) (hh : half < 2) (h1) (h2)
    (x : (Rect.unit (s := S9x3x128x576) ![0, pr, 64 * half, 0] ![1, 1, 64, 576] h2).shape.Idx) :
    whole0 (F := Ideal) (View.ld e (Rect.unit ![2 * pr + half, 0] ![1, 640] h1)) x
      = biasV e ((Rect.unit (s := S9x3x128x576) ![0, pr, 64 * half, 0] ![1, 1, 64, 576] h2).emb x) := by
  obtain ⟨r, k, rfl⟩ : ∃ (r : Fin 64) (k : Fin 576), x = ix4 0 0 r k := ⟨x 2, x 3, by
    funext a; fin_cases a <;> first | rfl | exact Subsingleton.elim (α := Fin 1) _ _⟩
  have e1 : (Rect.unit (s := S9x3x128x576) ![0, pr, 64 * half, 0] ![1, 1, 64, 576] h2).emb (ix4 0 0 r k) = ix4 0 ⟨pr, hp⟩ ⟨64 * half + r.val, by omega⟩ k := by
    funext a; fin_cases a <;> exact Fin.ext (by show _ + 1 * _ = _; rw [Nat.one_mul]; first | rfl | exact Nat.zero_add _)
  rw [e1]
  have := r.isLt
  refine Eq.trans ?_ (if_neg (fun h => h.1 rfl)).symm
  have e2 : whole0 (F := Ideal) (View.ld e (Rect.unit ![2 * pr + half, 0] ![1, 640] h1)) (ix4 0 0 r k)
      = k0_pay56 (View.ld e (Rect.unit ![2 * pr + half, 0] ![1, 640] h1)) (ix2 r k) := by
    unfold whole0 k0_pay57
    generalize k0_pay56 (View.ld e (Rect.unit ![2 * pr + half, 0] ![1, 640] h1)) = y
    pointwise []
  rw [e2, rolled_apply, row_at e (2 * pr + half) (by omega)]
  refine congrArg e (congrArg₂ ix2 (Fin.ext ?_) (Fin.ext ?_))
  · show 2 * pr + half = 2 * pr + (64 * half + r.val) / 64; omega
  · show (k.val + 640 - r.val) % 640 = (k.val + 640 - (64 * half + r.val) % 64) % 640; omega

theorem bias_piece (e : Vec Ideal S6x640 .f32) (t pr half : ℕ) (ht : t < 9) (ht0 : t ≠ 0) (hp : pr < 3) (hh : half < 2) (h1) (h2)
    (x : (Rect.unit (s := S9x3x128x576) ![t, pr, 64 * half, 0] ![1, 1, 64, 576] h2).shape.Idx) :
    struck (F := Ideal) (BitVec.ofNat 32 ((9 - t) * 64)) (View.ld e (Rect.unit ![2 * pr + half, 0] ![1, 640] h1)) x
      = biasV e ((Rect.unit (s := S9x3x128x576) ![t, pr, 64 * half, 0] ![1, 1, 64, 576] h2).emb x) := by
  obtain ⟨r, k, rfl⟩ : ∃ (r : Fin 64) (k : Fin 576), x = ix4 0 0 r k := ⟨x 2, x 3, by
    funext a; fin_cases a <;> first | rfl | exact Subsingleton.elim (α := Fin 1) _ _⟩
  have e1 : (Rect.unit (s := S9x3x128x576) ![t, pr, 64 * half, 0] ![1, 1, 64, 576] h2).emb (ix4 0 0 r k)
      = ix4 ⟨t, ht⟩ ⟨pr, hp⟩ ⟨64 * half + r.val, by omega⟩ k := by
    funext a; fin_cases a <;> exact Fin.ext (by show _ + 1 * _ = _; rw [Nat.one_mul]; first | rfl | exact Nat.zero_add _)
  rw [e1]
  have := r.isLt
  refine (struck_apply t ht _ r k).trans ?_
  rw [rolled_apply, row_at e (2 * pr + half) (by omega)]
  refine if_congr ⟨fun h => ⟨ht0, h⟩, fun h => h.2⟩ rfl ?_
  refine congrArg e (congrArg₂ ix2 (Fin.ext ?_) (Fin.ext ?_))
  · show 2 * pr + half = 2 * pr + (64 * half + r.val) / 64; omega
  · show (k.val + 640 - r.val) % 640 = (k.val + 640 - (64 * half + r.val) % 64) % 640; omega

end Cert.KernelIdeal.Att
-- ==== Proof.BlockA.lean ====
module

public import Idealize.ShloMosaic.Lib.Pipeline.ValueKit
public import Idealize.ShloMosaic.Lib.Pipeline.ReadBack
public import Idealize.ShloMosaic.Lib.Pointwise
public import proofs.«01_k».proof.Proof.BlockB
public import proofs.«01_k».proof.Proof.Bias
public import proofs.«01_k».proof.Proof.Gen.KernelIdeal.Value

@[expose] public section

set_option maxRecDepth 16384
set_option maxHeartbeats 4000000

noncomputable section

namespace Cert.KernelIdeal.Att

open Idealize.ShloMosaic Idealize.ShloMosaic.Tactic Cert.KernelIdeal.Gen

variable (m : (ℓ : Loc nD τ sig) → Buf (Elt Ideal) ℓ)

theorem bias_inb (t p h : ℕ) (ht : t < 9) (hp : p < 3) (hh : h < 2) :
    ∀ a : Fin 4, (![t, p, 64 * h, 0] : Fin 4 → ℕ) a + (![1, 1, 64, 576] : Fin 4 → ℕ) a ≤ S9x3x128x576.size a := fun a => by
  fin_cases a
  · show t + 1 ≤ 9; omega
  · show p + 1 ≤ 3; omega
  · show 64 * h + 64 ≤ 128; omega
  · show 0 + 576 ≤ 576; omega

/-- The 54 stores of the bias tables, the last first. -/
abbrev biasL (e : Vec Ideal S6x640 .f32) : List (View.Piece (Elt Ideal) S9x3x128x576 .f32) :=
      ⟨Rect.unit ![8, 2, 64, 0] ![1, 1, 64, 576] inb_S9x3x128x576_S1x1x64x576_8_2_64_0,
      k0_pay66 (Idealize.ShloMosaic.iota Kind.tc S64x576 32 [1] iota_S64x576_d1_w32)
      (k0_pay56 (View.ld (e) (Rect.unit ![5, 0] ![1, 640] inb_S6x640_S1x640_5_0)))⟩ ::
      ⟨Rect.unit ![7, 2, 64, 0] ![1, 1, 64, 576] inb_S9x3x128x576_S1x1x64x576_7_2_64_0,
      k0_pay65 (k0_pay56 (View.ld (e) (Rect.unit ![5, 0] ![1, 640] inb_S6x640_S1x640_5_0)))
      (k0_pay64 (Idealize.ShloMosaic.iota Kind.tc S64x576 32 [1] iota_S64x576_d1_w32))⟩ ::
      ⟨Rect.unit ![6, 2, 64, 0] ![1, 1, 64, 576] inb_S9x3x128x576_S1x1x64x576_6_2_64_0,
      k0_pay63 (Idealize.ShloMosaic.iota Kind.tc S64x576 32 [1] iota_S64x576_d1_w32)
      (k0_pay56 (View.ld (e) (Rect.unit ![5, 0] ![1, 640] inb_S6x640_S1x640_5_0)))⟩ ::
      ⟨Rect.unit ![5, 2, 64, 0] ![1, 1, 64, 576] inb_S9x3x128x576_S1x1x64x576_5_2_64_0,
      k0_pay62 (Idealize.ShloMosaic.iota Kind.tc S64x576 32 [1] iota_S64x576_d1_w32)
      (k0_pay56 (View.ld (e) (Rect.unit ![5, 0] ![1, 640] inb_S6x640_S1x640_5_0)))⟩ ::
      ⟨Rect.unit ![4, 2, 64, 0] ![1, 1, 64, 576] inb_S9x3x128x576_S1x1x64x576_4_2_64_0,
      k0_pay61 (Idealize.ShloMosaic.iota Kind.tc S64x576 32 [1] iota_S64x576_d1_w32)
      (k0_pay56 (View.ld (e) (Rect.unit ![5, 0] ![1, 640] inb_S6x640_S1x640_5_0)))⟩ ::
      ⟨Rect.unit ![3, 2, 64, 0] ![1, 1, 64, 576] inb_S9x3x128x576_S1x1x64x576_3_2_64_0,
      k0_pay60 (Idealize.ShloMosaic.iota Kind.tc S64x576 32 [1] iota_S64x576_d1_w32)
      (k0_pay56 (View.ld (e) (Rect.unit ![5, 0] ![1, 640] inb_S6x640_S1x640_5_0)))⟩ ::
      ⟨Rect.unit ![2, 2, 64, 0] ![1, 1, 64, 576] inb_S9x3x128x576_S1x1x64x576_2_2_64_0,
      k0_pay59 (Idealize.ShloMosaic.iota Kind.tc S64x576 32 [1] iota_S64x576_d1_w32)
      (View.ld (e) (Rect.unit ![5, 0] ![1, 640] inb_S6x640_S1x640_5_0))⟩ ::
      ⟨Rect.unit ![1, 2, 64, 0] ![1, 1, 64, 576] inb_S9x3x128x576_S1x1x64x576_1_2_64_0,
      k0_pay58 (Idealize.ShloMosaic.iota Kind.tc S64x576 32 [1] iota_S64x576_d1_w32)
      (View.ld (e) (Rect.unit ![5, 0] ![1, 640] inb_S6x640_S1x640_5_0))⟩ ::
      ⟨Rect.unit ![0, 2, 64, 0] ![1, 1, 64, 576] inb_S9x3x128x576_S1x1x64x576_0_2_64_0,
      k0_pay57 (View.ld (e) (Rect.unit ![5, 0] ![1, 640] inb_S6x640_S1x640_5_0))⟩ ::
      ⟨Rect.unit ![8, 2, 0, 0] ![1, 1, 64, 576] inb_S9x3x128x576_S1x1x64x576_8_2_0_0,
      k0_pay55 (k0_pay45 (View.ld (e) (Rect.unit ![4, 0] ![1, 640] inb_S6x640_S1x640_4_0)))
      (k0_pay54 (Idealize.ShloMosaic.iota Kind.tc S64x576 32 [1] iota_S64x576_d1_w32))⟩ ::
      ⟨Rect.unit ![7, 2, 0, 0] ![1, 1, 64, 576] inb_S9x3x128x576_S1x1x64x576_7_2_0_0,
      k0_pay53 (Idealize.ShloMosaic.iota Kind.tc S64x576 32 [1] iota_S64x576_d1_w32)
      (k0_pay45 (View.ld (e) (Rect.unit ![4, 0] ![1, 640] inb_S6x640_S1x640_4_0)))⟩ ::
      ⟨Rect.unit ![6, 2, 0, 0] ![1, 1, 64, 576] inb_S9x3x128x576_S1x1x64x576_6_2_0_0,
      k0_pay52 (Idealize.ShloMosaic.iota Kind.tc S64x576 32 [1] iota_S64x576_d1_w32)
      (k0_pay45 (View.ld (e) (Rect.unit ![4, 0] ![1, 640] inb_S6x640_S1x640_4_0)))⟩ ::
      ⟨Rect.unit ![5, 2, 0, 0] ![1, 1, 64, 576] inb_S9x3x128x576_S1x1x64x576_5_2_0_0,
      k0_pay51 (Idealize.ShloMosaic.iota Kind.tc S64x576 32 [1] iota_S64x576_d1_w32)
      (k0_pay45 (View.ld (e) (Rect.unit ![4, 0] ![1, 640] inb_S6x640_S1x640_4_0)))⟩ ::
      ⟨Rect.unit ![4, 2, 0, 0] ![1, 1, 64, 576] inb_S9x3x128x576_S1x1x64x576_4_2_0_0,
      k0_pay50 (Idealize.ShloMosaic.iota Kind.tc S64x576 32 [1] iota_S64x576_d1_w32)
      (k0_pay45 (View.ld (e) (Rect.unit ![4, 0] ![1, 640] inb_S6x640_S1x640_4_0)))⟩ ::
      ⟨Rect.unit ![3, 2, 0, 0] ![1, 1, 64, 576] inb_S9x3x128x576_S1x1x64x576_3_2_0_0,
      k0_pay49 (Idealize.ShloMosaic.iota Kind.tc S64x576 32 [1] iota_S64x576_d1_w32)
      (View.ld (e) (Rect.unit ![4, 0] ![1, 640] inb_S6x640_S1x640_4_0))⟩ ::
      ⟨Rect.unit ![2, 2, 0, 0] ![1, 1, 64, 576] inb_S9x3x128x576_S1x1x64x576_2_2_0_0,
      k0_pay48 (Idealize.ShloMosaic.iota Kind.tc S64x576 32 [1] iota_S64x576_d1_w32)
      (View.ld (e) (Rect.unit ![4, 0] ![1, 640] inb_S6x640_S1x640_4_0))⟩ ::
      ⟨Rect.unit ![1, 2, 0, 0] ![1, 1, 64, 576] inb_S9x3x128x576_S1x1x64x576_1_2_0_0,
      k0_pay47 (Idealize.ShloMosaic.iota Kind.tc S64x576 32 [1] iota_S64x576_d1_w32)
      (View.ld (e) (Rect.unit ![4, 0] ![1, 640] inb_S6x640_S1x640_4_0))⟩ ::
      ⟨Rect.unit ![0, 2, 0, 0] ![1, 1, 64, 576] inb_S9x3x128x576_S1x1x64x576_0_2_0_0,
      k0_pay46 (View.ld (e) (Rect.unit ![4, 0] ![1, 640] inb_S6x640_S1x640_4_0))⟩ ::
      ⟨Rect.unit ![8, 1, 64, 0] ![1, 1, 64, 576] inb_S9x3x128x576_S1x1x64x576_8_1_64_0,
      k0_pay44 (Idealize.ShloMosaic.iota Kind.tc S64x576 32 [1] iota_S64x576_d1_w32)
      (k0_pay35 (View.ld (e) (Rect.unit ![3, 0] ![1, 640] inb_S6x640_S1x640_3_0)))⟩ ::
      ⟨Rect.unit ![7, 1, 64, 0] ![1, 1, 64, 576] inb_S9x3x128x576_S1x1x64x576_7_1_64_0,
      k0_pay43 (Idealize.ShloMosaic.iota Kind.tc S64x576 32 [1] iota_S64x576_d1_w32)
      (k0_pay35 (View.ld (e) (Rect.unit ![3, 0] ![1, 640] inb_S6x640_S1x640_3_0)))⟩ ::
      ⟨Rect.unit ![6, 1, 64, 0] ![1, 1, 64, 576] inb_S9x3x128x576_S1x1x64x576_6_1_64_0,
      k0_pay42 (Idealize.ShloMosaic.iota Kind.tc S64x576 32 [1] iota_S64x576_d1_w32)
      (k0_pay35 (View.ld (e) (Rect.unit ![3, 0] ![1, 640] inb_S6x640_S1x640_3_0)))⟩ ::
      ⟨Rect.unit ![5, 1, 64, 0] ![1, 1, 64, 576] inb_S9x3x128x576_S1x1x64x576_5_1_64_0,
      k0_pay41 (Idealize.ShloMosaic.iota Kind.tc S64x576 32 [1] iota_S64x576_d1_w32)
      (k0_pay35 (View.ld (e) (Rect.unit ![3, 0] ![1, 640] inb_S6x640_S1x640_3_0)))⟩ ::
      ⟨Rect.unit ![4, 1, 64, 0] ![1, 1, 64, 576] inb_S9x3x128x576_S1x1x64x576_4_1_64_0,
      k0_pay40 (Idealize.ShloMosaic.iota Kind.tc S64x576 32 [1] iota_S64x576_d1_w32)
      (k0_pay35 (View.ld (e) (Rect.unit ![3, 0] ![1, 640] inb_S6x640_S1x640_3_0)))⟩ ::
      ⟨Rect.unit ![3, 1, 64, 0] ![1, 1, 64, 576] inb_S9x3x128x576_S1x1x64x576_3_1_64_0,
      k0_pay39 (Idealize.ShloMosaic.iota Kind.tc S64x576 32 [1] iota_S64x576_d1_w32)
      (k0_pay35 (View.ld (e) (Rect.unit ![3, 0] ![1, 640] inb_S6x640_S1x640_3_0)))⟩ ::
      ⟨Rect.unit ![2, 1, 64, 0] ![1, 1, 64, 576] inb_S9x3x128x576_S1x1x64x576_2_1_64_0,
      k0_pay38 (Idealize.ShloMosaic.iota Kind.tc S64x576 32 [1] iota_S64x576_d1_w32)
      (k0_pay35 (View.ld (e) (Rect.unit ![3, 0] ![1, 640] inb_S6x640_S1x640_3_0)))⟩ ::
      ⟨Rect.unit ![1, 1, 64, 0] ![1, 1, 64, 576] inb_S9x3x128x576_S1x1x64x576_1_1_64_0,
      k0_pay37 (Idealize.ShloMosaic.iota Kind.tc S64x576 32 [1] iota_S64x576_d1_w32)
      (k0_pay35 (View.ld (e) (Rect.unit ![3, 0] ![1, 640] inb_S6x640_S1x640_3_0)))⟩ ::
      ⟨Rect.unit ![0, 1, 64, 0] ![1, 1, 64, 576] inb_S9x3x128x576_S1x1x64x576_0_1_64_0,
      k0_pay36 (k0_pay35 (View.ld (e) (Rect.unit ![3, 0] ![1, 640] inb_S6x640_S1x640_3_0)))⟩ ::
      ⟨Rect.unit ![8, 1, 0, 0] ![1, 1, 64, 576] inb_S9x3x128x576_S1x1x64x576_8_1_0_0,
      k0_pay34 (Idealize.ShloMosaic.iota Kind.tc S64x576 32 [1] iota_S64x576_d1_w32)
      (k0_pay24 (View.ld (e) (Rect.unit ![2, 0] ![1, 640] inb_S6x640_S1x640_2_0)))⟩ ::
      ⟨Rect.unit ![7, 1, 0, 0] ![1, 1, 64, 576] inb_S9x3x128x576_S1x1x64x576_7_1_0_0,
      k0_pay33 (Idealize.ShloMosaic.iota Kind.tc S64x576 32 [1] iota_S64x576_d1_w32)
      (k0_pay24 (View.ld (e) (Rect.unit ![2, 0] ![1, 640] inb_S6x640_S1x640_2_0)))⟩ ::
      ⟨Rect.unit ![6, 1, 0, 0] ![1, 1, 64, 576] inb_S9x3x128x576_S1x1x64x576_6_1_0_0,
      k0_pay32 (Idealize.ShloMosaic.iota Kind.tc S64x576 32 [1] iota_S64x576_d1_w32)
      (k0_pay24 (View.ld (e) (Rect.unit ![2, 0] ![1, 640] inb_S6x640_S1x640_2_0)))⟩ ::
      ⟨Rect.unit ![5, 1, 0, 0] ![1, 1, 64, 576] inb_S9x3x128x576_S1x1x64x576_5_1_0_0,
      k0_pay31 (Idealize.ShloMosaic.iota Kind.tc S64x576 32 [1] iota_S64x576_d1_w32)
      (k0_pay24 (View.ld (e) (Rect.unit ![2, 0] ![1, 640] inb_S6x640_S1x640_2_0)))⟩ ::
      ⟨Rect.unit ![4, 1, 0, 0] ![1, 1, 64, 576] inb_S9x3x128x576_S1x1x64x576_4_1_0_0,
      k0_pay30 (Idealize.ShloMosaic.iota Kind.tc S64x576 32 [1] iota_S64x576_d1_w32)
      (k0_pay24 (View.ld (e) (Rect.unit ![2, 0] ![1, 640] inb_S6x640_S1x640_2_0)))⟩ ::
      ⟨Rect.unit ![3, 1, 0, 0] ![1, 1, 64, 576] inb_S9x3x128x576_S1x1x64x576_3_1_0_0,
      k0_pay29 (Idealize.ShloMosaic.iota Kind.tc S64x576 32 [1] iota_S64x576_d1_w32)
      (k0_pay24 (View.ld (e) (Rect.unit ![2, 0] ![1, 640] inb_S6x640_S1x640_2_0)))⟩ ::
      ⟨Rect.unit ![2, 1, 0, 0] ![1, 1, 64, 576] inb_S9x3x128x576_S1x1x64x576_2_1_0_0,
      k0_pay28 (Idealize.ShloMosaic.iota Kind.tc S64x576 32 [1] iota_S64x576_d1_w32)
      (k0_pay24 (View.ld (e) (Rect.unit ![2, 0] ![1, 640] inb_S6x640_S1x640_2_0)))⟩ ::
      ⟨Rect.unit ![1, 1, 0, 0] ![1, 1, 64, 576] inb_S9x3x128x576_S1x1x64x576_1_1_0_0,
      k0_pay27
      (k0_pay26 (Idealize.ShloMosaic.iota Kind.tc S64x576 32 [1] iota_S64x576_d1_w32)
      (View.ld (e) (Rect.unit ![2, 0] ![1, 640] inb_S6x640_S1x640_2_0)))⟩ ::
      ⟨Rect.unit ![0, 1, 0, 0] ![1, 1, 64, 576] inb_S9x3x128x576_S1x1x64x576_0_1_0_0,
      k0_pay25 (View.ld (e) (Rect.unit ![2, 0] ![1, 640] inb_S6x640_S1x640_2_0))⟩ ::
      ⟨Rect.unit ![8, 0, 64, 0] ![1, 1, 64, 576] inb_S9x3x128x576_S1x1x64x576_8_0_64_0,
      k0_pay23 (Idealize.ShloMosaic.iota Kind.tc S64x576 32 [1] iota_S64x576_d1_w32)
      (k0_pay13 (View.ld (e) (Rect.unit ![1, 0] ![1, 640] inb_S6x640_S1x640_1_0)))⟩ ::
      ⟨Rect.unit ![7, 0, 64, 0] ![1, 1, 64, 576] inb_S9x3x128x576_S1x1x64x576_7_0_64_0,
      k0_pay22 (Idealize.ShloMosaic.iota Kind.tc S64x576 32 [1] iota_S64x576_d1_w32)
      (k0_pay13 (View.ld (e) (Rect.unit ![1, 0] ![1, 640] inb_S6x640_S1x640_1_0)))⟩ ::
      ⟨Rect.unit ![6, 0, 64, 0] ![1, 1, 64, 576] inb_S9x3x128x576_S1x1x64x576_6_0_64_0,
      k0_pay21 (Idealize.ShloMosaic.iota Kind.tc S64x576 32 [1] iota_S64x576_d1_w32)
      (k0_pay13 (View.ld (e) (Rect.unit ![1, 0] ![1, 640] inb_S6x640_S1x640_1_0)))⟩ ::
      ⟨Rect.unit ![5, 0, 64, 0] ![1, 1, 64, 576] inb_S9x3x128x576_S1x1x64x576_5_0_64_0,
      k0_pay20 (Idealize.ShloMosaic.iota Kind.tc S64x576 32 [1] iota_S64x576_d1_w32)
      (k0_pay13 (View.ld (e) (Rect.unit ![1, 0] ![1, 640] inb_S6x640_S1x640_1_0)))⟩ ::
      ⟨Rect.unit ![4, 0, 64, 0] ![1, 1, 64, 576] inb_S9x3x128x576_S1x1x64x576_4_0_64_0,
      k0_pay19 (Idealize.ShloMosaic.iota Kind.tc S64x576 32 [1] iota_S64x576_d1_w32)
      (k0_pay13 (View.ld (e) (Rect.unit ![1, 0] ![1, 640] inb_S6x640_S1x640_1_0)))⟩ ::
      ⟨Rect.unit ![3, 0, 64, 0] ![1, 1, 64, 576] inb_S9x3x128x576_S1x1x64x576_3_0_64_0,
      k0_pay18 (Idealize.ShloMosaic.iota Kind.tc S64x576 32 [1] iota_S64x576_d1_w32)
      (k0_pay13 (View.ld (e) (Rect.unit ![1, 0] ![1, 640] inb_S6x640_S1x640_1_0)))⟩ ::
      ⟨Rect.unit ![2, 0, 64, 0] ![1, 1, 64, 576] inb_S9x3x128x576_S1x1x64x576_2_0_64_0,
      k0_pay17
      (k0_pay16 (Idealize.ShloMosaic.iota Kind.tc S64x576 32 [1] iota_S64x576_d1_w32)
      (View.ld (e) (Rect.unit ![1, 0] ![1, 640] inb_S6x640_S1x640_1_0)))⟩ ::
      ⟨Rect.unit ![1, 0, 64, 0] ![1, 1, 64, 576] inb_S9x3x128x576_S1x1x64x576_1_0_64_0,
      k0_pay15 (Idealize.ShloMosaic.iota Kind.tc S64x576 32 [1] iota_S64x576_d1_w32)
      (View.ld (e) (Rect.unit ![1, 0] ![1, 640] inb_S6x640_S1x640_1_0))⟩ ::
      ⟨Rect.unit ![0, 0, 64, 0] ![1, 1, 64, 576] inb_S9x3x128x576_S1x1x64x576_0_0_64_0,
      k0_pay14 (View.ld (e) (Rect.unit ![1, 0] ![1, 640] inb_S6x640_S1x640_1_0))⟩ ::
      ⟨Rect.unit ![8, 0, 0, 0] ![1, 1, 64, 576] inb_S9x3x128x576_S1x1x64x576_8_0_0_0,
      k0_pay12 (Idealize.ShloMosaic.iota Kind.tc S64x576 32 [1] iota_S64x576_d1_w32)
      (k0_pay2 (View.ld (e) (Rect.unit ![0, 0] ![1, 640] inb_S6x640_S1x640_0_0)))⟩ ::
      ⟨Rect.unit ![7, 0, 0, 0] ![1, 1, 64, 576] inb_S9x3x128x576_S1x1x64x576_7_0_0_0,
      k0_pay11 (Idealize.ShloMosaic.iota Kind.tc S64x576 32 [1] iota_S64x576_d1_w32)
      (k0_pay2 (View.ld (e) (Rect.unit ![0, 0] ![1, 640] inb_S6x640_S1x640_0_0)))⟩ ::
      ⟨Rect.unit ![6, 0, 0, 0] ![1, 1, 64, 576] inb_S9x3x128x576_S1x1x64x576_6_0_0_0,
      k0_pay10 (Idealize.ShloMosaic.iota Kind.tc S64x576 32 [1] iota_S64x576_d1_w32)
      (k0_pay2 (View.ld (e) (Rect.unit ![0, 0] ![1, 640] inb_S6x640_S1x640_0_0)))⟩ ::
      ⟨Rect.unit ![5, 0, 0, 0] ![1, 1, 64, 576] inb_S9x3x128x576_S1x1x64x576_5_0_0_0,
      k0_pay9 (Idealize.ShloMosaic.iota Kind.tc S64x576 32 [1] iota_S64x576_d1_w32)
      (k0_pay2 (View.ld (e) (Rect.unit ![0, 0] ![1, 640] inb_S6x640_S1x640_0_0)))⟩ ::
      ⟨Rect.unit ![4, 0, 0, 0] ![1, 1, 64, 576] inb_S9x3x128x576_S1x1x64x576_4_0_0_0,
      k0_pay8 (Idealize.ShloMosaic.iota Kind.tc S64x576 32 [1] iota_S64x576_d1_w32)
      (k0_pay2 (View.ld (e) (Rect.unit ![0, 0] ![1, 640] inb_S6x640_S1x640_0_0)))⟩ ::
      ⟨Rect.unit ![3, 0, 0, 0] ![1, 1, 64, 576] inb_S9x3x128x576_S1x1x64x576_3_0_0_0,
      k0_pay7 (k0_pay6 (View.ld (e) (Rect.unit ![0, 0] ![1, 640] inb_S6x640_S1x640_0_0)))⟩ ::
      ⟨Rect.unit ![2, 0, 0, 0] ![1, 1, 64, 576] inb_S9x3x128x576_S1x1x64x576_2_0_0_0,
      k0_pay5 (View.ld (e) (Rect.unit ![0, 0] ![1, 640] inb_S6x640_S1x640_0_0))⟩ ::
      ⟨Rect.unit ![1, 0, 0, 0] ![1, 1, 64, 576] inb_S9x3x128x576_S1x1x64x576_1_0_0_0,
      k0_pay4 (View.ld (e) (Rect.unit ![0, 0] ![1, 640] inb_S6x640_S1x640_0_0))⟩ ::
      ⟨Rect.unit ![0, 0, 0, 0] ![1, 1, 64, 576] inb_S9x3x128x576_S1x1x64x576_0_0_0_0,
      k0_pay3 (View.ld (e) (Rect.unit ![0, 0] ![1, 640] inb_S6x640_S1x640_0_0))⟩ :: []

theorem biasL_pieces (e : Vec Ideal S6x640 .f32) : View.PiecesOf (biasV e) (biasL e) := ⟨
    fun x => bias_piece e 8 2 1 (by decide) (by decide) (by decide) (by decide) _ (bias_inb 8 2 1 (by decide) (by decide) (by decide)) x,
    fun x => bias_piece e 7 2 1 (by decide) (by decide) (by decide) (by decide) _ (bias_inb 7 2 1 (by decide) (by decide) (by decide)) x,
    fun x => bias_piece e 6 2 1 (by decide) (by decide) (by decide) (by decide) _ (bias_inb 6 2 1 (by decide) (by decide) (by decide)) x,
    fun x => bias_piece e 5 2 1 (by decide) (by decide) (by decide) (by decide) _ (bias_inb 5 2 1 (by decide) (by decide) (by decide)) x,
    fun x => bias_piece e 4 2 1 (by decide) (by decide) (by decide) (by decide) _ (bias_inb 4 2 1 (by decide) (by decide) (by decide)) x,
    fun x => bias_piece e 3 2 1 (by decide) (by decide) (by decide) (by decide) _ (bias_inb 3 2 1 (by decide) (by decide) (by decide)) x,
    fun x => bias_piece e 2 2 1 (by decide) (by decide) (by decide) (by decide) _ (bias_inb 2 2 1 (by decide) (by decide) (by decide)) x,
    fun x => bias_piece e 1 2 1 (by decide) (by decide) (by decide) (by decide) _ (bias_inb 1 2 1 (by decide) (by decide) (by decide)) x,
    fun x => bias_piece0 e 2 1 (by decide) (by decide) _ (bias_inb 0 2 1 (by decide) (by decide) (by decide)) x,
    fun x => bias_piece e 8 2 0 (by decide) (by decide) (by decide) (by decide) _ (bias_inb 8 2 0 (by decide) (by decide) (by decide)) x,
    fun x => bias_piece e 7 2 0 (by decide) (by decide) (by decide) (by decide) _ (bias_inb 7 2 0 (by decide) (by decide) (by decide)) x,
    fun x => bias_piece e 6 2 0 (by decide) (by decide) (by decide) (by decide) _ (bias_inb 6 2 0 (by decide) (by decide) (by decide)) x,
    fun x => bias_piece e 5 2 0 (by decide) (by decide) (by decide) (by decide) _ (bias_inb 5 2 0 (by decide) (by decide) (by decide)) x,
    fun x => bias_piece e 4 2 0 (by decide) (by decide) (by decide) (by decide) _ (bias_inb 4 2 0 (by decide) (by decide) (by decide)) x,
    fun x => bias_piece e 3 2 0 (by decide) (by decide) (by decide) (by decide) _ (bias_inb 3 2 0 (by decide) (by decide) (by decide)) x,
    fun x => bias_piece e 2 2 0 (by decide) (by decide) (by decide) (by decide) _ (bias_inb 2 2 0 (by decide) (by decide) (by decide)) x,
    fun x => bias_piece e 1 2 0 (by decide) (by decide) (by decide) (by decide) _ (bias_inb 1 2 0 (by decide) (by decide) (by decide)) x,
    fun x => bias_piece0 e 2 0 (by decide) (by decide) _ (bias_inb 0 2 0 (by decide) (by decide) (by decide)) x,
    fun x => bias_piece e 8 1 1 (by decide) (by decide) (by decide) (by decide) _ (bias_inb 8 1 1 (by decide) (by decide) (by decide)) x,
    fun x => bias_piece e 7 1 1 (by decide) (by decide) (by decide) (by decide) _ (bias_inb 7 1 1 (by decide) (by decide) (by decide)) x,
    fun x => bias_piece e 6 1 1 (by decide) (by decide) (by decide) (by decide) _ (bias_inb 6 1 1 (by decide) (by decide) (by decide)) x,
    fun x => bias_piece e 5 1 1 (by decide) (by decide) (by decide) (by decide) _ (bias_inb 5 1 1 (by decide) (by decide) (by decide)) x,
    fun x => bias_piece e 4 1 1 (by decide) (by decide) (by decide) (by decide) _ (bias_inb 4 1 1 (by decide) (by decide) (by decide)) x,
    fun x => bias_piece e 3 1 1 (by decide) (by decide) (by decide) (by decide) _ (bias_inb 3 1 1 (by decide) (by decide) (by decide)) x,
    fun x => bias_piece e 2 1 1 (by decide) (by decide) (by decide) (by decide) _ (bias_inb 2 1 1 (by decide) (by decide) (by decide)) x,
    fun x => bias_piece e 1 1 1 (by decide) (by decide) (by decide) (by decide) _ (bias_inb 1 1 1 (by decide) (by decide) (by decide)) x,
    fun x => bias_piece0 e 1 1 (by decide) (by decide) _ (bias_inb 0 1 1 (by decide) (by decide) (by decide)) x,
    fun x => bias_piece e 8 1 0 (by decide) (by decide) (by decide) (by decide) _ (bias_inb 8 1 0 (by decide) (by decide) (by decide)) x,
    fun x => bias_piece e 7 1 0 (by decide) (by decide) (by decide) (by decide) _ (bias_inb 7 1 0 (by decide) (by decide) (by decide)) x,
    fun x => bias_piece e 6 1 0 (by decide) (by decide) (by decide) (by decide) _ (bias_inb 6 1 0 (by decide) (by decide) (by decide)) x,
    fun x => bias_piece e 5 1 0 (by decide) (by decide) (by decide) (by decide) _ (bias_inb 5 1 0 (by decide) (by decide) (by decide)) x,
    fun x => bias_piece e 4 1 0 (by decide) (by decide) (by decide) (by decide) _ (bias_inb 4 1 0 (by decide) (by decide) (by decide)) x,
    fun x => bias_piece e 3 1 0 (by decide) (by decide) (by decide) (by decide) _ (bias_inb 3 1 0 (by decide) (by decide) (by decide)) x,
    fun x => bias_piece e 2 1 0 (by decide) (by decide) (by decide) (by decide) _ (bias_inb 2 1 0 (by decide) (by decide) (by decide)) x,
    fun x => bias_piece e 1 1 0 (by decide) (by decide) (by decide) (by decide) _ (bias_inb 1 1 0 (by decide) (by decide) (by decide)) x,
    fun x => bias_piece0 e 1 0 (by decide) (by decide) _ (bias_inb 0 1 0 (by decide) (by decide) (by decide)) x,
    fun x => bias_piece e 8 0 1 (by decide) (by decide) (by decide) (by decide) _ (bias_inb 8 0 1 (by decide) (by decide) (by decide)) x,
    fun x => bias_piece e 7 0 1 (by decide) (by decide) (by decide) (by decide) _ (bias_inb 7 0 1 (by decide) (by decide) (by decide)) x,
    fun x => bias_piece e 6 0 1 (by decide) (by decide) (by decide) (by decide) _ (bias_inb 6 0 1 (by decide) (by decide) (by decide)) x,
    fun x => bias_piece e 5 0 1 (by decide) (by decide) (by decide) (by decide) _ (bias_inb 5 0 1 (by decide) (by decide) (by decide)) x,
    fun x => bias_piece e 4 0 1 (by decide) (by decide) (by decide) (by decide) _ (bias_inb 4 0 1 (by decide) (by decide) (by decide)) x,
    fun x => bias_piece e 3 0 1 (by decide) (by decide) (by decide) (by decide) _ (bias_inb 3 0 1 (by decide) (by decide) (by decide)) x,
    fun x => bias_piece e 2 0 1 (by decide) (by decide) (by decide) (by decide) _ (bias_inb 2 0 1 (by decide) (by decide) (by decide)) x,
    fun x => bias_piece e 1 0 1 (by decide) (by decide) (by decide) (by decide) _ (bias_inb 1 0 1 (by decide) (by decide) (by decide)) x,
    fun x => bias_piece0 e 0 1 (by decide) (by decide) _ (bias_inb 0 0 1 (by decide) (by decide) (by decide)) x,
    fun x => bias_piece e 8 0 0 (by decide) (by decide) (by decide) (by decide) _ (bias_inb 8 0 0 (by decide) (by decide) (by decide)) x,
    fun x => bias_piece e 7 0 0 (by decide) (by decide) (by decide) (by decide) _ (bias_inb 7 0 0 (by decide) (by decide) (by decide)) x,
    fun x => bias_piece e 6 0 0 (by decide) (by decide) (by decide) (by decide) _ (bias_inb 6 0 0 (by decide) (by decide) (by decide)) x,
    fun x => bias_piece e 5 0 0 (by decide) (by decide) (by decide) (by decide) _ (bias_inb 5 0 0 (by decide) (by decide) (by decide)) x,
    fun x => bias_piece e 4 0 0 (by decide) (by decide) (by decide) (by decide) _ (bias_inb 4 0 0 (by decide) (by decide) (by decide)) x,
    fun x => bias_piece e 3 0 0 (by decide) (by decide) (by decide) (by decide) _ (bias_inb 3 0 0 (by decide) (by decide) (by decide)) x,
    fun x => bias_piece e 2 0 0 (by decide) (by decide) (by decide) (by decide) _ (bias_inb 2 0 0 (by decide) (by decide) (by decide)) x,
    fun x => bias_piece e 1 0 0 (by decide) (by decide) (by decide) (by decide) _ (bias_inb 1 0 0 (by decide) (by decide) (by decide)) x,
    fun x => bias_piece0 e 0 0 (by decide) (by decide) _ (bias_inb 0 0 0 (by decide) (by decide) (by decide)) x,
    trivial⟩

theorem canon_bias (e : Vec Ideal S6x640 .f32) : View.canon (biasL e) = biasV e :=
  funext fun y => View.canon_apply_of_pieces (biasV e) (biasL e) (biasL_pieces e).mem y (View.cover_of_tiled_head _ _ _ (by rfl) y)

/-- A read of the bias tables after their stores. -/
theorem bias_load (e : Vec Ideal S6x640 .f32) (off size : Fin S9x3x128x576.rank → ℕ) (h) (v : View sig .tc .vmem S9x3x128x576 .f32) :
    v.readCov (biasL e) (Rect.unit off size h).toLoadRect = View.ld (biasV e) (Rect.unit off size h) := by
  refine (View.readCov_eq_canon' _ _ _).trans ?_
  funext j
  exact congrFun (canon_bias e) _

/-- After the first point the bias tables are those of its window of the table. -/
theorem tables_A (c : Dev nD) (t : Fin cfg0.N) (h0 : t.val % 64 = 0) : (outsAt0 m c t.val t.isLt).2 = biasV (iblk m c 4 t) := by
  rw [outsAt0_A m c t h0]
  frame_open
  frame_out
  first | done | exact canon_bias (iblk m c 4 t)

/-- The same, of a list that is those stores. -/
theorem bias_read (e : Vec Ideal S6x640 .f32) (L : List (View.Piece (Elt Ideal) S9x3x128x576 .f32)) (hL : L = biasL e) (off size : Fin S9x3x128x576.rank → ℕ) (h)
    (v : View sig .tc .vmem S9x3x128x576 .f32) : v.readCov L (Rect.unit off size h).toLoadRect = View.ld (biasV e) (Rect.unit off size h) := by
  rw [hL]
  exact bias_load e off size h v

theorem bias_canon (e : Vec Ideal S6x640 .f32) (L : List (View.Piece (Elt Ideal) S9x3x128x576 .f32)) (hL : L = biasL e) (r : Rect S9x3x128x576) :
    View.ld (View.canon L) r = View.ld (biasV e) r := by
  rw [hL, canon_bias]

/-- The first block. -/
theorem block_A (c : Dev nD) (t : Fin cfg0.N) (h0 : t.val % 64 = 0) :
    (outsAt0 m c t.val t.isLt).1 = blk (iblk m c 5 t) (iblk m c 6 t) (iblk m c 7 t) (iblk m c 8 t) (iblk m c 9 t) (iblk m c 10 t) (iblk m c 11 t)
      (ycV (grid0.coords t 1).val (iblk m c 0 t) (band (iblk m c 1 t) (iblk m c 2 t)) (iblk m c 3 t) (biasV (iblk m c 4 t))) := by
  rw [outsAt0_A m c t h0]
  frame_open
  frame_out
  simp only [band_load]
  simp (disch := exact rfl) only [bias_read (iblk m c 4 t), bias_canon (iblk m c 4 t)]
  refine congrArg (blk (iblk m c 5 t) (iblk m c 6 t) (iblk m c 7 t) (iblk m c 8 t) (iblk m c 9 t) (iblk m c 10 t) (iblk m c 11 t)) ?_
  refine read_whole _ _ _ _ _ _ ?_ (by rfl)
  exact ⟨
    fun x => piece (grid0.coords t 1).val _ _ _ _ 15 2 (by decide) (by decide) _ (tab_high _ 15 (by decide)) rfl rfl rfl _ _ _ _ _ (tile_inb 15 2 (by decide) (by decide)) x,
    fun x => piece (grid0.coords t 1).val _ _ _ _ 15 1 (by decide) (by decide) _ (tab_high _ 15 (by decide)) rfl rfl rfl _ _ _ _ _ (tile_inb 15 1 (by decide) (by decide)) x,
    fun x => piece (grid0.coords t 1).val _ _ _ _ 15 0 (by decide) (by decide) _ (tab_high _ 15 (by decide)) rfl rfl rfl _ _ _ _ _ (tile_inb 15 0 (by decide) (by decide)) x,
    fun x => piece (grid0.coords t 1).val _ _ _ _ 14 2 (by decide) (by decide) _ (tab_high _ 14 (by decide)) rfl rfl rfl _ _ _ _ _ (tile_inb 14 2 (by decide) (by decide)) x,
    fun x => piece (grid0.coords t 1).val _ _ _ _ 14 1 (by decide) (by decide) _ (tab_high _ 14 (by decide)) rfl rfl rfl _ _ _ _ _ (tile_inb 14 1 (by decide) (by decide)) x,
    fun x => piece (grid0.coords t 1).val _ _ _ _ 14 0 (by decide) (by decide) _ (tab_high _ 14 (by decide)) rfl rfl rfl _ _ _ _ _ (tile_inb 14 0 (by decide) (by decide)) x,
    fun x => piece (grid0.coords t 1).val _ _ _ _ 13 2 (by decide) (by decide) _ (tab_high _ 13 (by decide)) rfl rfl rfl _ _ _ _ _ (tile_inb 13 2 (by decide) (by decide)) x,
    fun x => piece (grid0.coords t 1).val _ _ _ _ 13 1 (by decide) (by decide) _ (tab_high _ 13 (by decide)) rfl rfl rfl _ _ _ _ _ (tile_inb 13 1 (by decide) (by decide)) x,
    fun x => piece (grid0.coords t 1).val _ _ _ _ 13 0 (by decide) (by decide) _ (tab_high _ 13 (by decide)) rfl rfl rfl _ _ _ _ _ (tile_inb 13 0 (by decide) (by decide)) x,
    fun x => piece (grid0.coords t 1).val _ _ _ _ 12 2 (by decide) (by decide) _ (tab_high _ 12 (by decide)) rfl rfl rfl _ _ _ _ _ (tile_inb 12 2 (by decide) (by decide)) x,
    fun x => piece (grid0.coords t 1).val _ _ _ _ 12 1 (by decide) (by decide) _ (tab_high _ 12 (by decide)) rfl rfl rfl _ _ _ _ _ (tile_inb 12 1 (by decide) (by decide)) x,
    fun x => piece (grid0.coords t 1).val _ _ _ _ 12 0 (by decide) (by decide) _ (tab_high _ 12 (by decide)) rfl rfl rfl _ _ _ _ _ (tile_inb 12 0 (by decide) (by decide)) x,
    fun x => piece (grid0.coords t 1).val _ _ _ _ 11 2 (by decide) (by decide) _ (tab_high _ 11 (by decide)) rfl rfl rfl _ _ _ _ _ (tile_inb 11 2 (by decide) (by decide)) x,
    fun x => piece (grid0.coords t 1).val _ _ _ _ 11 1 (by decide) (by decide) _ (tab_high _ 11 (by decide)) rfl rfl rfl _ _ _ _ _ (tile_inb 11 1 (by decide) (by decide)) x,
    fun x => piece (grid0.coords t 1).val _ _ _ _ 11 0 (by decide) (by decide) _ (tab_high _ 11 (by decide)) rfl rfl rfl _ _ _ _ _ (tile_inb 11 0 (by decide) (by decide)) x,
    fun x => piece (grid0.coords t 1).val _ _ _ _ 10 2 (by decide) (by decide) _ (tab_high _ 10 (by decide)) rfl rfl rfl _ _ _ _ _ (tile_inb 10 2 (by decide) (by decide)) x,
    fun x => piece (grid0.coords t 1).val _ _ _ _ 10 1 (by decide) (by decide) _ (tab_high _ 10 (by decide)) rfl rfl rfl _ _ _ _ _ (tile_inb 10 1 (by decide) (by decide)) x,
    fun x => piece (grid0.coords t 1).val _ _ _ _ 10 0 (by decide) (by decide) _ (tab_high _ 10 (by decide)) rfl rfl rfl _ _ _ _ _ (tile_inb 10 0 (by decide) (by decide)) x,
    fun x => piece (grid0.coords t 1).val _ _ _ _ 9 2 (by decide) (by decide) _ (tab_high _ 9 (by decide)) rfl rfl rfl _ _ _ _ _ (tile_inb 9 2 (by decide) (by decide)) x,
    fun x => piece (grid0.coords t 1).val _ _ _ _ 9 1 (by decide) (by decide) _ (tab_high _ 9 (by decide)) rfl rfl rfl _ _ _ _ _ (tile_inb 9 1 (by decide) (by decide)) x,
    fun x => piece (grid0.coords t 1).val _ _ _ _ 9 0 (by decide) (by decide) _ (tab_high _ 9 (by decide)) rfl rfl rfl _ _ _ _ _ (tile_inb 9 0 (by decide) (by decide)) x,
    fun x => piece (grid0.coords t 1).val _ _ _ _ 8 2 (by decide) (by decide) _ (tab_high _ 8 (by decide)) rfl rfl rfl _ _ _ _ _ (tile_inb 8 2 (by decide) (by decide)) x,
    fun x => piece (grid0.coords t 1).val _ _ _ _ 8 1 (by decide) (by decide) _ (tab_high _ 8 (by decide)) rfl rfl rfl _ _ _ _ _ (tile_inb 8 1 (by decide) (by decide)) x,
    fun x => piece (grid0.coords t 1).val _ _ _ _ 8 0 (by decide) (by decide) _ (tab_high _ 8 (by decide)) rfl rfl rfl _ _ _ _ _ (tile_inb 8 0 (by decide) (by decide)) x,
    fun x => piece (grid0.coords t 1).val _ _ _ _ 7 2 (by decide) (by decide) _ (off3_tab _ 7 (by decide)) rfl rfl rfl _ _ _ _ _ (tile_inb 7 2 (by decide) (by decide)) x,
    fun x => piece (grid0.coords t 1).val _ _ _ _ 7 1 (by decide) (by decide) _ (off2_tab _ 7 (by decide)) rfl rfl rfl _ _ _ _ _ (tile_inb 7 1 (by decide) (by decide)) x,
    fun x => piece (grid0.coords t 1).val _ _ _ _ 7 0 (by decide) (by decide) _ (off1_tab _ 7 (by decide)) rfl rfl rfl _ _ _ _ _ (tile_inb 7 0 (by decide) (by decide)) x,
    fun x => piece (grid0.coords t 1).val _ _ _ _ 6 2 (by decide) (by decide) _ (off3_tab _ 6 (by decide)) rfl rfl rfl _ _ _ _ _ (tile_inb 6 2 (by decide) (by decide)) x,
    fun x => piece (grid0.coords t 1).val _ _ _ _ 6 1 (by decide) (by decide) _ (off2_tab _ 6 (by decide)) rfl rfl rfl _ _ _ _ _ (tile_inb 6 1 (by decide) (by decide)) x,
    fun x => piece (grid0.coords t 1).val _ _ _ _ 6 0 (by decide) (by decide) _ (off1_tab _ 6 (by decide)) rfl rfl rfl _ _ _ _ _ (tile_inb 6 0 (by decide) (by decide)) x,
    fun x => piece (grid0.coords t 1).val _ _ _ _ 5 2 (by decide) (by decide) _ (off3_tab _ 5 (by decide)) rfl rfl rfl _ _ _ _ _ (tile_inb 5 2 (by decide) (by decide)) x,
    fun x => piece (grid0.coords t 1).val _ _ _ _ 5 1 (by decide) (by decide) _ (off2_tab _ 5 (by decide)) rfl rfl rfl _ _ _ _ _ (tile_inb 5 1 (by decide) (by decide)) x,
    fun x => piece (grid0.coords t 1).val _ _ _ _ 5 0 (by decide) (by decide) _ (off1_tab _ 5 (by decide)) rfl rfl rfl _ _ _ _ _ (tile_inb 5 0 (by decide) (by decide)) x,
    fun x => piece (grid0.coords t 1).val _ _ _ _ 4 2 (by decide) (by decide) _ (off3_tab _ 4 (by decide)) rfl rfl rfl _ _ _ _ _ (tile_inb 4 2 (by decide) (by decide)) x,
    fun x => piece (grid0.coords t 1).val _ _ _ _ 4 1 (by decide) (by decide) _ (off2_tab _ 4 (by decide)) rfl rfl rfl _ _ _ _ _ (tile_inb 4 1 (by decide) (by decide)) x,
    fun x => piece (grid0.coords t 1).val _ _ _ _ 4 0 (by decide) (by decide) _ (off1_tab _ 4 (by decide)) rfl rfl rfl _ _ _ _ _ (tile_inb 4 0 (by decide) (by decide)) x,
    fun x => piece (grid0.coords t 1).val _ _ _ _ 3 2 (by decide) (by decide) _ (off3_tab _ 3 (by decide)) rfl rfl rfl _ _ _ _ _ (tile_inb 3 2 (by decide) (by decide)) x,
    fun x => piece (grid0.coords t 1).val _ _ _ _ 3 1 (by decide) (by decide) _ (off2_tab _ 3 (by decide)) rfl rfl rfl _ _ _ _ _ (tile_inb 3 1 (by decide) (by decide)) x,
    fun x => piece (grid0.coords t 1).val _ _ _ _ 3 0 (by decide) (by decide) _ (off1_tab _ 3 (by decide)) rfl rfl rfl _ _ _ _ _ (tile_inb 3 0 (by decide) (by decide)) x,
    fun x => piece (grid0.coords t 1).val _ _ _ _ 2 2 (by decide) (by decide) _ (off3_tab _ 2 (by decide)) rfl rfl rfl _ _ _ _ _ (tile_inb 2 2 (by decide) (by decide)) x,
    fun x => piece (grid0.coords t 1).val _ _ _ _ 2 1 (by decide) (by decide) _ (off2_tab _ 2 (by decide)) rfl rfl rfl _ _ _ _ _ (tile_inb 2 1 (by decide) (by decide)) x,
    fun x => piece (grid0.coords t 1).val _ _ _ _ 2 0 (by decide) (by decide) _ (off1_tab _ 2 (by decide)) rfl rfl rfl _ _ _ _ _ (tile_inb 2 0 (by decide) (by decide)) x,
    fun x => piece (grid0.coords t 1).val _ _ _ _ 1 2 (by decide) (by decide) _ (off3_tab _ 1 (by decide)) rfl rfl rfl _ _ _ _ _ (tile_inb 1 2 (by decide) (by decide)) x,
    fun x => piece (grid0.coords t 1).val _ _ _ _ 1 1 (by decide) (by decide) _ (off2_tab _ 1 (by decide)) rfl rfl rfl _ _ _ _ _ (tile_inb 1 1 (by decide) (by decide)) x,
    fun x => piece (grid0.coords t 1).val _ _ _ _ 1 0 (by decide) (by decide) _ (off1_tab _ 1 (by decide)) rfl rfl rfl _ _ _ _ _ (tile_inb 1 0 (by decide) (by decide)) x,
    fun x => piece (grid0.coords t 1).val _ _ _ _ 0 2 (by decide) (by decide) _ (off3_tab _ 0 (by decide)) rfl rfl rfl _ _ _ _ _ (tile_inb 0 2 (by decide) (by decide)) x,
    fun x => piece (grid0.coords t 1).val _ _ _ _ 0 1 (by decide) (by decide) _ (off2_tab _ 0 (by decide)) rfl rfl rfl _ _ _ _ _ (tile_inb 0 1 (by decide) (by decide)) x,
    fun x => piece (grid0.coords t 1).val _ _ _ _ 0 0 (by decide) (by decide) _ (off1_tab _ 0 (by decide)) rfl rfl rfl _ _ _ _ _ (tile_inb 0 0 (by decide) (by decide)) x,
    trivial⟩

end Cert.KernelIdeal.Att
-- ==== Proof.Tables.lean ====
/- The bias tables, which the kernel makes at its first grid point, are what every later grid point reads; so one formula
   holds for every point's block. -/
module

public import proofs.«01_k».proof.Proof.BlockA

@[expose] public section

set_option maxRecDepth 16384
set_option maxHeartbeats 4000000

noncomputable section

namespace Cert.KernelIdeal.Att

open Idealize.ShloMosaic Idealize.ShloMosaic.Tactic Cert.KernelIdeal.Gen

variable (m : (ℓ : Loc nD τ sig) → Buf (Elt Ideal) ℓ)

/-- A later grid point leaves the tables as it finds them. -/
theorem tables_B (c : Dev nD) (t : Fin cfg0.N) (h0 : ¬t.val % 64 = 0) :
    (outsAt0 m c t.val t.isLt).2 = (outsAt0 m c (t.val - 1) (Nat.lt_of_le_of_lt (Nat.sub_le _ _) t.isLt)).2 := by
  rw [outsAt0_B m c t h0]
  rfl

/-- The block of scores' biases is the same at every grid point: its window cuts the whole array. -/
theorem bias_same (c : Dev nD) (t t' : Fin cfg0.N) : iblk m c 4 t = iblk m c 4 t' := rfl

theorem tables (c : Dev nD) : ∀ (n : ℕ) (h : n < cfg0.N), (outsAt0 m c n h).2 = biasV (iblk m c 4 ⟨n, h⟩)
  | 0, h => tables_A m c ⟨0, h⟩ rfl
  | n + 1, h => by
    have hn : n + 1 < 64 := lt_of_lt_of_eq h N_0
    refine (tables_B m c ⟨n + 1, h⟩ (show ¬(n + 1) % 64 = 0 by omega)).trans ?_
    exact (tables c n (Nat.lt_of_succ_lt h)).trans (congrArg biasV (bias_same m c _ _))

/-- Every grid point's block. -/
theorem block (c : Dev nD) (t : Fin cfg0.N) :
    (outsAt0 m c t.val t.isLt).1 = blk (iblk m c 5 t) (iblk m c 6 t) (iblk m c 7 t) (iblk m c 8 t) (iblk m c 9 t) (iblk m c 10 t) (iblk m c 11 t)
      (ycV (grid0.coords t 1).val (iblk m c 0 t) (band (iblk m c 1 t) (iblk m c 2 t)) (iblk m c 3 t) (biasV (iblk m c 4 t))) := by
  by_cases h0 : t.val % 64 = 0
  · exact block_A m c t h0
  · rw [block_B m c t h0, tables m c _ _, bias_same m c _ t]

end Cert.KernelIdeal.Att
-- ==== Proof.Norm.lean ====
module

public import Idealize.ShloMosaic.Lib.Pointwise
public import proofs.«01_k».proof.Proof.BlockB

@[expose] public section

set_option maxRecDepth 16384
set_option maxHeartbeats 1000000

noncomputable section

namespace Cert.KernelIdeal.Att

open Idealize.ShloMosaic Idealize.ShloMosaic.Tactic Idealize.ShloMosaic.Pointwise Cert.KernelIdeal.Gen Cert.Att

/-- A row of the block before its normalization. -/
def rowz (x₅ : Vec Ideal S1x1024x256 .bf16) (x₆ : Vec Ideal S1x1024x384 .bf16) (x₇ : Vec Ideal S1x1024x1024 .f32) (x₈ : Vec Ideal S1x1x1024 .f32)
    (x₉ : Vec Ideal S1024x1024 .bf16) (Y : Vec Ideal S1024x384 .bf16) (r j : Fin 1024) : EReal :=
  Ideal.ofBits .f32 1068827891#32 * x₇ (ix3 0 r j) + x₈ (ix3 0 0 j) * ∑ w : Fin 1024,
    (if h : w.val < 256 then x₅ (ix3 0 r ⟨w.val, h⟩) else if h' : w.val - 256 < 384 then x₆ (ix3 0 r ⟨w.val - 256, h'⟩)
      else Y (ix2 r ⟨w.val - 640, by omega⟩) : EReal) * x₉ (ix2 w j)

theorem centred (x₅ x₆ x₇ x₈ x₉) (Y : Vec Ideal S1024x384 .bf16) (r j : Fin 1024) :
    k0_pay227 (F := Ideal) (k0_pay224 x₇) (k0_pay225 x₈) (k0_pay226 x₅ x₆ Y x₉) (ix2 r j)
      = rowz x₅ x₆ x₇ x₈ x₉ Y r j - mean (rowz x₅ x₆ x₇ x₈ x₉ Y r) := by
  pointwise [k0_pay227, k0_pay224, k0_pay225, k0_pay226]
  rfl

theorem blk_apply (x₅ x₆ x₇ x₈ x₉ x₁₀ x₁₁) (Y : Vec Ideal S1024x384 .bf16) (r j : Fin 1024) :
    blk (F := Ideal) x₅ x₆ x₇ x₈ x₉ x₁₀ x₁₁ Y (ix3 0 r j)
      = lnorm (rowz x₅ x₆ x₇ x₈ x₉ Y r) (fun i => x₁₀ (ix2 0 (i 0))) (fun i => x₁₁ (ix2 0 (i 0))) j := by
  unfold blk
  pointwise [k0_pay1, k0_pay228, centred]
  rfl

end Cert.KernelIdeal.Att
-- ==== Proof.KerGather.lean ====
module

public import Idealize.ShloMosaic.Lib.Pipeline.ValueKit
public import Idealize.ShloMosaic.Lib.Pointwise
public import proofs.«01_k».proof.Proof.Gen.KernelIdeal.Skeleton

@[expose] public section

set_option maxRecDepth 16384

noncomputable section

namespace Cert.KernelIdeal.Att

open Idealize.ShloMosaic Idealize.ShloMosaic.Tactic Idealize.ShloMosaic.Pointwise Cert.KernelIdeal

/-- The bias table gathered at a table of distances, read at an index. -/
theorem gather_ext {α : Type} (x : S6x513.Idx → α) (idx : IVec S640x1 32) (h : Fin 6) (n : Fin 640) :
    Host.gather gather_S6x513_S640x1_S6x640_0_1_n_n_1_1_61 x idx (ix2 h n) =
      x (ix2 h ⟨min (idx (ix2 n 0)).toInt.toNat 512, by omega⟩) := by
  have hb : ∀ a, gather_S6x513_S640x1_S6x640_0_1_n_n_1_1_61.batchCoord (ix2 h n) a = 0 := fun a => GatherDims.batchCoord_eq_zero _ _ _ List.not_mem_nil
  have hsi : ∀ hl, gather_S6x513_S640x1_S6x640_0_1_n_n_1_1_61.siIdx (ix2 h n) ⟨List.idxOf (1 : Fin 2) gather_S6x513_S640x1_S6x640_0_1_n_n_1_1_61.startIndexMap, hl⟩ = ix2 n 0 := by
    intro hl; funext e; refine Fin.ext ?_
    match e with
    | ⟨0, _⟩ => rfl
    | ⟨1, _⟩ => rfl
  have s0 : gather_S6x513_S640x1_S6x640_0_1_n_n_1_1_61.start (ix2 h n) idx (0 : Fin 2) = 0 := dif_neg (show (0 : Fin 2) ∉ gather_S6x513_S640x1_S6x640_0_1_n_n_1_1_61.startIndexMap by decide)
  have o0 : gather_S6x513_S640x1_S6x640_0_1_n_n_1_1_61.offCoord (ix2 h n) (0 : Fin 2) = h := (dif_pos (show (0 : Fin 2) ∈ gather_S6x513_S640x1_S6x640_0_1_n_n_1_1_61.sKept by decide)).trans rfl
  have s1 : gather_S6x513_S640x1_S6x640_0_1_n_n_1_1_61.start (ix2 h n) idx (1 : Fin 2) = min (idx (ix2 n 0)).toInt.toNat 512 := by
    refine (dif_pos (show (1 : Fin 2) ∈ gather_S6x513_S640x1_S6x640_0_1_n_n_1_1_61.startIndexMap by decide)).trans ?_
    rw [hsi]; rfl
  have o1 : gather_S6x513_S640x1_S6x640_0_1_n_n_1_1_61.offCoord (ix2 h n) (1 : Fin 2) = 0 := dif_neg (show (1 : Fin 2) ∉ gather_S6x513_S640x1_S6x640_0_1_n_n_1_1_61.sKept by decide)
  unfold Host.gather
  congr 1
  funext a
  refine Fin.ext ?_
  show gather_S6x513_S640x1_S6x640_0_1_n_n_1_1_61.start (ix2 h n) idx a + gather_S6x513_S640x1_S6x640_0_1_n_n_1_1_61.batchCoord (ix2 h n) a + gather_S6x513_S640x1_S6x640_0_1_n_n_1_1_61.offCoord (ix2 h n) a = _
  rw [hb]
  match a with
  | ⟨0, _⟩ =>
    show gather_S6x513_S640x1_S6x640_0_1_n_n_1_1_61.start (ix2 h n) idx (0 : Fin 2) + 0 + gather_S6x513_S640x1_S6x640_0_1_n_n_1_1_61.offCoord (ix2 h n) (0 : Fin 2) = (h).val
    rw [s0, o0]; simp only [Nat.zero_add, Nat.add_zero]
  | ⟨1, _⟩ =>
    show gather_S6x513_S640x1_S6x640_0_1_n_n_1_1_61.start (ix2 h n) idx (1 : Fin 2) + 0 + gather_S6x513_S640x1_S6x640_0_1_n_n_1_1_61.offCoord (ix2 h n) (1 : Fin 2) = min (idx (ix2 n 0)).toInt.toNat 512
    rw [s1, o1]; simp only [Nat.zero_add, Nat.add_zero]

end Cert.KernelIdeal.Att
-- ==== Proof.Points.lean ====
/- What each input block of the kernel reads: its place in the argument that its window cuts it from. -/
module

public import proofs.«01_k».proof.Proof.KerGather
public import proofs.«01_k».proof.Proof.Gen.KernelIdeal.Value

@[expose] public section

set_option maxRecDepth 16384
set_option maxHeartbeats 4000000

noncomputable section

namespace Cert.KernelIdeal.Att

open Idealize.ShloMosaic Idealize.ShloMosaic.TcCoe Idealize.ShloMosaic.Tactic Idealize.ShloMosaic.Pointwise Cert.KernelIdeal Cert.KernelIdeal.Gen

variable (m : (ℓ : Loc nD τ sig) → Buf (Elt Ideal) ℓ)

theorem point_lt (t : Fin cfg0.N) : t.val < 64 := lt_of_lt_of_eq t.isLt N_0

/-- The batch entry of a grid point. -/
def bat (t : Fin cfg0.N) : Fin 8 := ⟨t.val / 8, by have := point_lt t; omega⟩

/-- The frame of row `r` of a grid point's block. -/
def row (t : Fin cfg0.N) (r : Fin 1024) : Fin 8192 := ⟨t.val % 8 * 1024 + r.val, by omega⟩

theorem coord_one : ∀ t : Fin cfg0.N, (grid0.coords t 1).val = t.val % 8 := (by decide +kernel : ∀ t : Fin grid0.N, _)

theorem idx : ∀ t : Fin cfg0.N, win0_0.index t = ![t.val / 8, t.val % 8, 0] ∧ win0_1.index t = ![t.val / 8, t.val % 8 * 2 - 1, 0]
    ∧ win0_2.index t = ![t.val / 8, t.val % 8, 0] ∧ win0_3.index t = ![t.val / 8, t.val % 8, 0] ∧ win0_4.index t = ![0, 0]
    ∧ win0_5.index t = ![t.val / 8, t.val % 8, 0] ∧ win0_6.index t = ![t.val / 8, t.val % 8, 0] ∧ win0_7.index t = ![t.val / 8, t.val % 8, 0]
    ∧ win0_8.index t = ![t.val / 8, 0, 0] ∧ win0_9.index t = ![0, 0] ∧ win0_10.index t = ![0, 0] ∧ win0_11.index t = ![0, 0]
    ∧ win0_12.index t = ![t.val / 8, t.val % 8, 0] := (by decide +kernel : ∀ t : Fin grid0.N, _)

theorem rd0 (c : Dev nD) (t : Fin cfg0.N) (r : Fin 1024) (l : Fin 384) :
    iblk m c 0 t (ix3 0 r l) = m ((c : Thread nD τ).loc main_arg0) (ix3 (bat t) (row t r) l) := by
  have hb := (idx t).1
  rw [← V_main_arg0 m c]
  blk_ext [iblk, hb, bat, row]

theorem rd2 (c : Dev nD) (t : Fin cfg0.N) (r : Fin 1024) (l : Fin 768) :
    iblk m c 2 t (ix3 0 r l) = m ((c : Thread nD τ).loc main_arg1) (ix3 (bat t) (row t r) l) := by
  have hb := (idx t).2.2.1
  rw [← V_main_arg1 m c]
  blk_ext [iblk, hb, bat, row]

theorem rd3 (c : Dev nD) (t : Fin cfg0.N) (r : Fin 1024) (l : Fin 384) :
    iblk m c 3 t (ix3 0 r l) = m ((c : Thread nD τ).loc main_arg2) (ix3 (bat t) (row t r) l) := by
  have hb := (idx t).2.2.2.1
  rw [← V_main_arg2 m c]
  blk_ext [iblk, hb, bat, row]

theorem rd5 (c : Dev nD) (t : Fin cfg0.N) (r : Fin 1024) (l : Fin 256) :
    iblk m c 5 t (ix3 0 r l) = m ((c : Thread nD τ).loc main_arg4) (ix3 (bat t) (row t r) l) := by
  have hb := (idx t).2.2.2.2.2.1
  rw [← V_main_arg4 m c]
  blk_ext [iblk, hb, bat, row]

theorem rd6 (c : Dev nD) (t : Fin cfg0.N) (r : Fin 1024) (l : Fin 384) :
    iblk m c 6 t (ix3 0 r l) = m ((c : Thread nD τ).loc main_arg5) (ix3 (bat t) (row t r) l) := by
  have hb := (idx t).2.2.2.2.2.2.1
  rw [← V_main_arg5 m c]
  blk_ext [iblk, hb, bat, row]

theorem rd7 (c : Dev nD) (t : Fin cfg0.N) (r : Fin 1024) (l : Fin 1024) :
    iblk m c 7 t (ix3 0 r l) = m ((c : Thread nD τ).loc main_arg6) (ix3 (bat t) (row t r) l) := by
  have hb := (idx t).2.2.2.2.2.2.2.1
  rw [← V_main_arg6 m c]
  blk_ext [iblk, hb, bat, row]

/-- The half block of keys and values before a grid point's block; at a sequence's start the first half block. -/
theorem rd1 (c : Dev nD) (t : Fin cfg0.N) (r : Fin 512) (l : Fin 768) :
    iblk m c 1 t (ix3 0 r l) = m ((c : Thread nD τ).loc main_arg1) (ix3 (bat t) ⟨(t.val % 8 * 2 - 1) * 512 + r.val, by omega⟩ l) := by
  have hb := (idx t).2.1
  rw [← V_main_arg1 m c]
  blk_ext [iblk, hb, bat, row]

theorem rd8 (c : Dev nD) (t : Fin cfg0.N) (j : Fin 1024) :
    iblk m c 8 t (ix3 0 0 j) = m ((c : Thread nD τ).loc main_arg7) (ix3 (bat t) 0 j) := by
  have hb := (idx t).2.2.2.2.2.2.2.2.1
  rw [← V_main_arg7 m c]
  blk_ext [iblk, hb, bat, row]

theorem rd9 (c : Dev nD) (t : Fin cfg0.N) (w j : Fin 1024) :
    iblk m c 9 t (ix2 w j) = m ((c : Thread nD τ).loc main_arg8) (ix2 w j) := by
  have hb := (idx t).2.2.2.2.2.2.2.2.2.1
  blk_ext [iblk, V, hb]

theorem rd10 (c : Dev nD) (t : Fin cfg0.N) (j : Fin 1024) :
    iblk m c 10 t (ix2 0 j) = m ((c : Thread nD τ).loc main_arg9) (ix1 j) := by
  have hb := (idx t).2.2.2.2.2.2.2.2.2.2.1
  have e : iblk m c 10 t (ix2 0 j) = V m c main_v6 (ix2 0 j) := by
    blk_ext [iblk, hb]
  rw [e]
  entry_read
  pointwise

theorem rd11 (c : Dev nD) (t : Fin cfg0.N) (j : Fin 1024) :
    iblk m c 11 t (ix2 0 j) = m ((c : Thread nD τ).loc main_arg10) (ix1 j) := by
  have hb := (idx t).2.2.2.2.2.2.2.2.2.2.2.1
  have e : iblk m c 11 t (ix2 0 j) = V m c main_v7 (ix2 0 j) := by
    blk_ext [iblk, hb]
  rw [e]
  entry_read
  pointwise

theorem rd4 (c : Dev nD) (t : Fin cfg0.N) (h : Fin 6) (y : Fin 640) :
    iblk m c 4 t (ix2 h y) = m ((c : Thread nD τ).loc main_arg3) (ix2 h ⟨min (lit0 y).toInt.toNat 512, by omega⟩) := by
  have hb := (idx t).2.2.2.2.1
  have e : iblk m c 4 t (ix2 h y) = V m c main_v4 (ix2 h y) := by
    blk_ext [iblk, hb]
  rw [e]
  entry_read
  refine (gather_ext _ _ h y).trans ?_
  refine congrArg (m ((c : Thread nD τ).loc main_arg3)) (congrArg (ix2 h) (Fin.ext ?_))
  refine congrArg (fun w : BitVec 32 => min w.toInt.toNat 512) (?_ : _ = lit0 y)
  pointwise
  exact congrArg lit0 (Fin.ext (Shape.rowMajor_val_one _))

/-- The kernel's table of distances: the biases of a chunk's first query, its keys backwards from the chunk's end. -/
theorem lit0_eq : ∀ y : Fin 640, min (lit0 y).toInt.toNat 512 = if y.val < 576 then min (768 - y.val) 512 else if y.val = 576 then min (lit0 y).toInt.toNat 512 else 512 := by
  decide +kernel

end Cert.KernelIdeal.Att
-- ==== Proof.Array.lean ====
/- The kernel's array after the run: every grid point's block is its part of the layer's attention result. -/
module

public import proofs.«01_k».proof.Proof.Tables
public import proofs.«01_k».proof.Proof.Norm
public import proofs.«01_k».proof.Proof.Points

@[expose] public section

set_option maxRecDepth 16384
set_option maxHeartbeats 1000000

noncomputable section

namespace Cert.KernelIdeal.Att

open Idealize.ShloMosaic Idealize.ShloMosaic.TcCoe Idealize.ShloMosaic.Tactic Idealize.ShloMosaic.Pointwise Cert.KernelIdeal Cert.KernelIdeal.Gen Cert.Att

variable (m : (ℓ : Loc nD τ sig) → Buf (Elt Ideal) ℓ)

/-- The kernel's arguments, as launched. -/
def karr (c : Dev nD) : Arr where
  q := m ((c : Thread nD τ).loc main_arg0)
  kv := m ((c : Thread nD τ).loc main_arg1)
  gate := m ((c : Thread nD τ).loc main_arg2)
  rel := m ((c : Thread nD τ).loc main_arg3)
  ya := m ((c : Thread nD τ).loc main_arg4)
  yb := m ((c : Thread nD τ).loc main_arg5)
  x := m ((c : Thread nD τ).loc main_arg6)
  g1 := m ((c : Thread nD τ).loc main_arg7)
  w := m ((c : Thread nD τ).loc main_arg8)
  g := m ((c : Thread nD τ).loc main_arg9)
  b := m ((c : Thread nD τ).loc main_arg10)

/-- A row of the band that is not before the sequence's start. -/
theorem band_row (c : Dev nD) (t : Fin cfg0.N) (y : Fin 1536) (l : Fin 768) (h : 512 ≤ t.val % 8 * 1024 + y.val) :
    band (iblk m c 1 t) (iblk m c 2 t) (ix2 y l)
      = (karr m c).kv (ix3 (bat t) ⟨t.val % 8 * 1024 + y.val - 512, by have := y.isLt; omega⟩ l) := by
  by_cases hy : y.val < 512
  · refine (dif_pos hy).trans ((rd1 m c t ⟨y.val, hy⟩ l).trans ?_)
    exact congrArg (m ((c : Thread nD τ).loc main_arg1)) (congrArg (fun z => ix3 (bat t) z l) (Fin.ext (by show (t.val % 8 * 2 - 1) * 512 + y.val = t.val % 8 * 1024 + y.val - 512; omega)))
  · refine (dif_neg hy).trans ((rd2 m c t ⟨y.val - 512, by have := y.isLt; omega⟩ l).trans ?_)
    exact congrArg (m ((c : Thread nD τ).loc main_arg1)) (congrArg (fun z => ix3 (bat t) z l) (Fin.ext (by show t.val % 8 * 1024 + (y.val - 512) = t.val % 8 * 1024 + y.val - 512; omega)))

/-- The bias that is not struck out. -/
theorem bias_val (c : Dev nD) (t : Fin cfg0.N) (tb : Fin 9) (p : Fin 3) (a : Fin 128) (x : Fin 576) (h : ¬(tb.val ≠ 0 ∧ x.val < (9 - tb.val) * 64)) :
    biasV (iblk m c 4 t) (ix4 tb p a x) = relb (karr m c).rel ⟨2 * p.val + a.val / 64, by omega⟩ ⟨a.val % 64, Nat.mod_lt _ (by omega)⟩ x := by
  refine (if_neg h).trans ((rd4 m c t _ _).trans ?_)
  unfold relb
  refine congrArg (m ((c : Thread nD τ).loc main_arg3)) (congrArg (ix2 _) (Fin.ext ?_))
  refine (lit0_eq _).trans ?_
  show (if (x.val + 640 - a.val % 64) % 640 < 576 then min (768 - (x.val + 640 - a.val % 64) % 640) 512 else if (x.val + 640 - a.val % 64) % 640 = 576 then _ else 512) = min (a.val % 64 + 768 - x.val) 512
  have hx := x.isLt
  have e2 : (x.val + 640 - a.val % 64) % 640 ≠ 576 := by omega
  split
  · omega
  · omega

/-- A grid point's gated attention. -/
theorem yc_eq (c : Dev nD) (t : Fin cfg0.N) (r : Fin 1024) (l : Fin 384) :
    ycS (t.val % 8) (iblk m c 0 t) (band (iblk m c 1 t) (iblk m c 2 t)) (iblk m c 3 t) (biasV (iblk m c 4 t)) r l
      = (karr m c).gate (ix3 (bat t) (row t r) l)
        * att (karr m c) (bat t) ⟨(row t r).val / 64, by omega⟩ ⟨(row t r).val % 64, Nat.mod_lt _ (by omega)⟩ l := by
  have hl := l.isLt
  have hr := r.isLt
  have hn : (row t r).val / 64 = t.val % 8 * 16 + r.val / 64 := by show (t.val % 8 * 1024 + r.val) / 64 = _; omega
  have hm : (row t r).val % 64 = r.val % 64 := by show (t.val % 8 * 1024 + r.val) % 64 = _; omega
  unfold ycS att
  refine congrArg₂ (fun a b : EReal => a * b) (rd3 m c t r l) ?_
  refine Eq.trans (congrFun (congrArg attn (?_ : _ = score (karr m c).q (karr m c).kv (karr m c).rel (bat t) ⟨(row t r).val / 64, by omega⟩ ⟨l.val / 64, by omega⟩
    ⟨(row t r).val % 64, Nat.mod_lt _ (by omega)⟩)) _) (attn_congr _ _ _ fun x hx => ?_)
  · funext x
    have hx := x.isLt
    unfold score
    by_cases hk : 64 * ((row t r).val / 64) + x.val < 512
    · refine Eq.trans ?_ (if_pos hk).symm
      have ht : tab (t.val % 8) (r.val / 64) = r.val / 64 + 1 := if_pos (by omega)
      refine (congrArg _ ?_).trans (EReal.add_bot _)
      refine if_pos ?_
      show tab (t.val % 8) (r.val / 64) ≠ 0 ∧ x.val < (9 - tab (t.val % 8) (r.val / 64)) * 64
      rw [ht]
      omega
    · refine Eq.trans ?_ (if_neg hk).symm
      refine congrArg₂ (fun a b : EReal => a + b) (congrArg (fun a : EReal => a * _) (Finset.sum_congr rfl fun d _ => ?_)) ?_
      · have hd := d.isLt
        refine congrArg₂ (fun a b : EReal => a * b) ((rd0 m c t r _).trans ?_) ((band_row m c t _ _ ?_).trans ?_)
        · exact congrArg (m ((c : Thread nD τ).loc main_arg0)) (congrArg (fun z => ix3 (bat t) z _) (Fin.ext (by show (row t r).val = (row t r).val / 64 * 64 + (row t r).val % 64; omega)))
        · show 512 ≤ t.val % 8 * 1024 + (r.val / 64 * 64 + x.val); omega
        · exact congrArg (karr m c).kv (congrArg (fun z => ix3 (bat t) z _) (Fin.ext (by show t.val % 8 * 1024 + (r.val / 64 * 64 + x.val) - 512 = 64 * ((row t r).val / 64) + x.val - 512; omega)))
      · refine (bias_val m c t _ _ _ _ ?_).trans ?_
        · show ¬(tab (t.val % 8) (r.val / 64) ≠ 0 ∧ x.val < (9 - tab (t.val % 8) (r.val / 64)) * 64)
          unfold tab
          split <;> omega
        · refine congrArg₂ (fun h r => relb (karr m c).rel h r x) (Fin.ext ?_) (Fin.ext ?_)
          · show 2 * (l.val / 128) + (l.val / 64 % 2 * 64 + r.val % 64) / 64 = l.val / 64; omega
          · show (l.val / 64 % 2 * 64 + r.val % 64) % 64 = (row t r).val % 64; omega
  · have hk : ¬64 * ((row t r).val / 64) + x.val < 512 := fun h => hx (if_pos h)
    refine Eq.trans ((band_row m c t _ _ ?_).trans ?_) (if_neg hk).symm
    · show 512 ≤ t.val % 8 * 1024 + (r.val / 64 * 64 + x.val); omega
    · exact congrArg (karr m c).kv (congrArg (fun z => ix3 (bat t) z _) (Fin.ext (by show t.val % 8 * 1024 + (r.val / 64 * 64 + x.val) - 512 = 64 * ((row t r).val / 64) + x.val - 512; omega)))

/-- A grid point's row before its normalization. -/
theorem rowz_eq (c : Dev nD) (t : Fin cfg0.N) (r j : Fin 1024) :
    rowz (iblk m c 5 t) (iblk m c 6 t) (iblk m c 7 t) (iblk m c 8 t) (iblk m c 9 t)
      (ycV (t.val % 8) (iblk m c 0 t) (band (iblk m c 1 t) (iblk m c 2 t)) (iblk m c 3 t) (biasV (iblk m c 4 t))) r j
      = resid (karr m c) (bat t) (row t r) j := by
  unfold rowz resid
  refine congrArg₂ (fun a b : EReal => a + b) (congrArg _ (rd7 m c t r j)) (congrArg₂ (fun a b : EReal => a * b) (rd8 m c t j) (Finset.sum_congr rfl fun w _ => congrArg₂ (fun a b : EReal => a * b) ?_ (rd9 m c t w j)))
  unfold mix
  by_cases h : w.val < 256
  · have e : iblk m c 5 t (ix3 0 r ⟨w.val, h⟩) = (karr m c).ya (ix3 (bat t) (row t r) ⟨w.val, h⟩) := rd5 m c t r _
    rw [dif_pos h, dif_pos h, e]
  · by_cases h' : w.val - 256 < 384
    · have e : iblk m c 6 t (ix3 0 r ⟨w.val - 256, h'⟩) = (karr m c).yb (ix3 (bat t) (row t r) ⟨w.val - 256, h'⟩) := rd6 m c t r _
      rw [dif_neg h, dif_neg h, dif_pos h', dif_pos h', e]
    · rw [dif_neg h, dif_neg h, dif_neg h', dif_neg h']
      exact yc_eq m c t r ⟨w.val - 640, by omega⟩

/-- A grid point's block. -/
theorem block_eq (c : Dev nD) (t : Fin cfg0.N) (r j : Fin 1024) :
    (outsAt0 m c t.val t.isLt).1 (ix3 0 r j) = result (karr m c) (ix3 (bat t) (row t r) j) := by
  rw [block m c t, coord_one]
  refine (blk_apply _ _ _ _ _ _ _ _ r j).trans ?_
  show _ = lnorm (resid (karr m c) (bat t) (row t r)) (karr m c).g (karr m c).b j
  rw [funext fun j => rowz_eq m c t r j]
  refine congrArg₂ (fun g b => lnorm _ g b j) (funext fun i => (rd10 m c t (i 0)).trans ?_) (funext fun i => (rd11 m c t (i 0)).trans ?_)
  · exact congrArg (m ((c : Thread nD τ).loc main_arg9)) (funext fun a => by fin_cases a; rfl)
  · exact congrArg (m ((c : Thread nD τ).loc main_arg10)) (funext fun a => by fin_cases a; rfl)

/-- The array after the run. -/
theorem array (c : Dev nD) : (dats m 0 c).arrAt 12 cfg0.N = result (karr m c) := by
  refine (dats m 0 c).arrAt_eq_of_covers 12 _ (by decide +kernel) fun t hf y => ?_
  obtain ⟨r, j, rfl⟩ : ∃ (r j : Fin 1024), y = ix3 0 r j := ⟨y 1, y 2, by
    funext a; fin_cases a <;> first | rfl | exact Subsingleton.elim (α := Fin 1) _ _⟩
  have hb := (idx t).2.2.2.2.2.2.2.2.2.2.2.2
  refine (congrFun (Value.flushed12 m c t) _).trans ?_
  refine Eq.trans (block_eq m c t r j) ?_
  blk_ext [hb, bat, row]

end Cert.KernelIdeal.Att
-- ==== Proof.Numbers.lean ====
/- What the precondition says: the queries, the keys and the biases are numbers. -/
module

public import proofs.«01_k».proof.Pre_scores_finite
public import proofs.«01_k».proof.Proof.Spec
public import Idealize.ShloMosaic.Lib.ReduceAll
public import Idealize.ShloMosaic.Lib.Pointwise

@[expose] public section

set_option maxRecDepth 16384

noncomputable section

namespace Cert.Pre_scores_finite

open Idealize.ShloMosaic Idealize.ShloMosaic.Tactic Idealize.ShloMosaic.Pointwise Cert.Att

theorem facts : Facts where
  bitsLt_bf16_f32 := by decide
  bcast_S_S8x8192x384 := by decide
  reducesTo_S8x8192x384_S_d0_1_2 := by decide
  h_S_ := by decide
  slices_S8x8192x768_S8x8192x384_0_0_0 := by decide
  bcast_S_S6x513 := by decide
  reducesTo_S6x513_S_d0_1 := by decide

/-- A value whose magnitude is less than `+∞` is a number. -/
theorem real_of_lt (x : EReal) (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | coe a => exact ⟨a, rfl⟩
  | top => simp [Ideal.cmp] at h

theorem andi_left {a b : IVec S_ 1} (h : andi a b = fun _ => 1#1) : a = fun _ => 1#1 := by
  funext i
  have := congrFun h i
  exact (IntOp.andi_eq_one.1 this).1

theorem andi_right {a b : IVec S_ 1} (h : andi a b = fun _ => 1#1) : b = fun _ => 1#1 := by
  funext i
  have := congrFun h i
  exact (IntOp.andi_eq_one.1 this).2

instance : Subsingleton S_.Idx := ⟨fun a b => funext fun i => i.elim0⟩

/-- The numbers that the precondition's three tests find. -/
theorem numbers [Facts] (q kv gate rel ya yb x g1 w g b) (h : fn (F := Ideal) q kv gate rel ya yb x g1 w g b = fun _ => 1#1) : Finite q kv rel := by
  have h1 := andi_left (andi_left h)
  have h2 := andi_right (andi_left h)
  have h3 := andi_right h
  refine ⟨fun i => real_of_lt _ ?_, fun b t l => real_of_lt _ ?_, fun i => real_of_lt _ ?_⟩
  · exact Host.reduce_andi_all _ _ _ _ _ (congrFun h1 (fun i => i.elim0)) i
  · have e : extractStridedSlice S8x8192x384 ![0, 0, 0] kv Facts.slices_S8x8192x768_S8x8192x384_0_0_0 (ix3 b t l) = kv (ix3 b t ⟨l.val, by omega⟩) := by
      pointwise
    rw [← e]
    exact Host.reduce_andi_all _ _ _ _ _ (congrFun h2 (fun i => i.elim0)) (ix3 b t l)
  · exact Host.reduce_andi_all _ _ _ _ _ (congrFun h3 (fun i => i.elim0)) i

end Cert.Pre_scores_finite
-- ==== Proof.RefGather.lean ====
module

public import Idealize.ShloMosaic.Lib.Pipeline.ValueKit
public import Idealize.ShloMosaic.Lib.Pointwise
public import proofs.«01_k».proof.Proof.Gen.ReferenceIdeal.Run

@[expose] public section

set_option maxRecDepth 16384

noncomputable section

namespace Cert.ReferenceIdeal.Att

open Idealize.ShloMosaic Idealize.ShloMosaic.Tactic Idealize.ShloMosaic.Pointwise Cert.ReferenceIdeal

/-- The padded keys (or values) gathered at a table of positions, read at an index. -/
theorem gather_band {α : Type} (x : S8x8704x384.Idx → α) (idx : IVec S128x576x1 32) (b : Fin 8) (n : Fin 128) (k : Fin 576) (c : Fin 384) :
    Host.gather gather_S8x8704x384_S128x576x1_S8x128x576x384_03_1_n_n_1_2_81384 x idx (ix4 b n k c) =
      x (ix3 b ⟨min (idx (ix3 n k 0)).toInt.toNat 8703, by omega⟩ c) := by
  have hb : ∀ a, gather_S8x8704x384_S128x576x1_S8x128x576x384_03_1_n_n_1_2_81384.batchCoord (ix4 b n k c) a = 0 := fun a => GatherDims.batchCoord_eq_zero _ _ _ List.not_mem_nil
  have hsi : ∀ hl, gather_S8x8704x384_S128x576x1_S8x128x576x384_03_1_n_n_1_2_81384.siIdx (ix4 b n k c) ⟨List.idxOf (1 : Fin 3) gather_S8x8704x384_S128x576x1_S8x128x576x384_03_1_n_n_1_2_81384.startIndexMap, hl⟩ = ix3 n k 0 := by
    intro hl; funext e; refine Fin.ext ?_
    match e with
    | ⟨0, _⟩ => rfl
    | ⟨1, _⟩ => rfl
    | ⟨2, _⟩ => rfl
  have s0 : gather_S8x8704x384_S128x576x1_S8x128x576x384_03_1_n_n_1_2_81384.start (ix4 b n k c) idx (0 : Fin 3) = 0 := dif_neg (show (0 : Fin 3) ∉ gather_S8x8704x384_S128x576x1_S8x128x576x384_03_1_n_n_1_2_81384.startIndexMap by decide)
  have o0 : gather_S8x8704x384_S128x576x1_S8x128x576x384_03_1_n_n_1_2_81384.offCoord (ix4 b n k c) (0 : Fin 3) = b := (dif_pos (show (0 : Fin 3) ∈ gather_S8x8704x384_S128x576x1_S8x128x576x384_03_1_n_n_1_2_81384.sKept by decide)).trans rfl
  have s1 : gather_S8x8704x384_S128x576x1_S8x128x576x384_03_1_n_n_1_2_81384.start (ix4 b n k c) idx (1 : Fin 3) = min (idx (ix3 n k 0)).toInt.toNat 8703 := by
    refine (dif_pos (show (1 : Fin 3) ∈ gather_S8x8704x384_S128x576x1_S8x128x576x384_03_1_n_n_1_2_81384.startIndexMap by decide)).trans ?_
    rw [hsi]; rfl
  have o1 : gather_S8x8704x384_S128x576x1_S8x128x576x384_03_1_n_n_1_2_81384.offCoord (ix4 b n k c) (1 : Fin 3) = 0 := dif_neg (show (1 : Fin 3) ∉ gather_S8x8704x384_S128x576x1_S8x128x576x384_03_1_n_n_1_2_81384.sKept by decide)
  have s2 : gather_S8x8704x384_S128x576x1_S8x128x576x384_03_1_n_n_1_2_81384.start (ix4 b n k c) idx (2 : Fin 3) = 0 := dif_neg (show (2 : Fin 3) ∉ gather_S8x8704x384_S128x576x1_S8x128x576x384_03_1_n_n_1_2_81384.startIndexMap by decide)
  have o2 : gather_S8x8704x384_S128x576x1_S8x128x576x384_03_1_n_n_1_2_81384.offCoord (ix4 b n k c) (2 : Fin 3) = c := (dif_pos (show (2 : Fin 3) ∈ gather_S8x8704x384_S128x576x1_S8x128x576x384_03_1_n_n_1_2_81384.sKept by decide)).trans rfl
  unfold Host.gather
  congr 1
  funext a
  refine Fin.ext ?_
  show gather_S8x8704x384_S128x576x1_S8x128x576x384_03_1_n_n_1_2_81384.start (ix4 b n k c) idx a + gather_S8x8704x384_S128x576x1_S8x128x576x384_03_1_n_n_1_2_81384.batchCoord (ix4 b n k c) a + gather_S8x8704x384_S128x576x1_S8x128x576x384_03_1_n_n_1_2_81384.offCoord (ix4 b n k c) a = _
  rw [hb]
  match a with
  | ⟨0, _⟩ =>
    show gather_S8x8704x384_S128x576x1_S8x128x576x384_03_1_n_n_1_2_81384.start (ix4 b n k c) idx (0 : Fin 3) + 0 + gather_S8x8704x384_S128x576x1_S8x128x576x384_03_1_n_n_1_2_81384.offCoord (ix4 b n k c) (0 : Fin 3) = (b).val
    rw [s0, o0]; simp only [Nat.zero_add, Nat.add_zero]
  | ⟨1, _⟩ =>
    show gather_S8x8704x384_S128x576x1_S8x128x576x384_03_1_n_n_1_2_81384.start (ix4 b n k c) idx (1 : Fin 3) + 0 + gather_S8x8704x384_S128x576x1_S8x128x576x384_03_1_n_n_1_2_81384.offCoord (ix4 b n k c) (1 : Fin 3) = min (idx (ix3 n k 0)).toInt.toNat 8703
    rw [s1, o1]; simp only [Nat.zero_add, Nat.add_zero]
  | ⟨2, _⟩ =>
    show gather_S8x8704x384_S128x576x1_S8x128x576x384_03_1_n_n_1_2_81384.start (ix4 b n k c) idx (2 : Fin 3) + 0 + gather_S8x8704x384_S128x576x1_S8x128x576x384_03_1_n_n_1_2_81384.offCoord (ix4 b n k c) (2 : Fin 3) = (c).val
    rw [s2, o2]; simp only [Nat.zero_add, Nat.add_zero]

/-- The bias table gathered at a table of distances, read at an index. -/
theorem gather_bias {α : Type} (x : S6x513.Idx → α) (idx : IVec S64x576x1 32) (h : Fin 6) (r : Fin 64) (k : Fin 576) :
    Host.gather gather_S6x513_S64x576x1_S6x64x576_0_1_n_n_1_2_61 x idx (ix3 h r k) =
      x (ix2 h ⟨min (idx (ix3 r k 0)).toInt.toNat 512, by omega⟩) := by
  have hb : ∀ a, gather_S6x513_S64x576x1_S6x64x576_0_1_n_n_1_2_61.batchCoord (ix3 h r k) a = 0 := fun a => GatherDims.batchCoord_eq_zero _ _ _ List.not_mem_nil
  have hsi : ∀ hl, gather_S6x513_S64x576x1_S6x64x576_0_1_n_n_1_2_61.siIdx (ix3 h r k) ⟨List.idxOf (1 : Fin 2) gather_S6x513_S64x576x1_S6x64x576_0_1_n_n_1_2_61.startIndexMap, hl⟩ = ix3 r k 0 := by
    intro hl; funext e; refine Fin.ext ?_
    match e with
    | ⟨0, _⟩ => rfl
    | ⟨1, _⟩ => rfl
    | ⟨2, _⟩ => rfl
  have s0 : gather_S6x513_S64x576x1_S6x64x576_0_1_n_n_1_2_61.start (ix3 h r k) idx (0 : Fin 2) = 0 := dif_neg (show (0 : Fin 2) ∉ gather_S6x513_S64x576x1_S6x64x576_0_1_n_n_1_2_61.startIndexMap by decide)
  have o0 : gather_S6x513_S64x576x1_S6x64x576_0_1_n_n_1_2_61.offCoord (ix3 h r k) (0 : Fin 2) = h := (dif_pos (show (0 : Fin 2) ∈ gather_S6x513_S64x576x1_S6x64x576_0_1_n_n_1_2_61.sKept by decide)).trans rfl
  have s1 : gather_S6x513_S64x576x1_S6x64x576_0_1_n_n_1_2_61.start (ix3 h r k) idx (1 : Fin 2) = min (idx (ix3 r k 0)).toInt.toNat 512 := by
    refine (dif_pos (show (1 : Fin 2) ∈ gather_S6x513_S64x576x1_S6x64x576_0_1_n_n_1_2_61.startIndexMap by decide)).trans ?_
    rw [hsi]; rfl
  have o1 : gather_S6x513_S64x576x1_S6x64x576_0_1_n_n_1_2_61.offCoord (ix3 h r k) (1 : Fin 2) = 0 := dif_neg (show (1 : Fin 2) ∉ gather_S6x513_S64x576x1_S6x64x576_0_1_n_n_1_2_61.sKept by decide)
  unfold Host.gather
  congr 1
  funext a
  refine Fin.ext ?_
  show gather_S6x513_S64x576x1_S6x64x576_0_1_n_n_1_2_61.start (ix3 h r k) idx a + gather_S6x513_S64x576x1_S6x64x576_0_1_n_n_1_2_61.batchCoord (ix3 h r k) a + gather_S6x513_S64x576x1_S6x64x576_0_1_n_n_1_2_61.offCoord (ix3 h r k) a = _
  rw [hb]
  match a with
  | ⟨0, _⟩ =>
    show gather_S6x513_S64x576x1_S6x64x576_0_1_n_n_1_2_61.start (ix3 h r k) idx (0 : Fin 2) + 0 + gather_S6x513_S64x576x1_S6x64x576_0_1_n_n_1_2_61.offCoord (ix3 h r k) (0 : Fin 2) = (h).val
    rw [s0, o0]; simp only [Nat.zero_add, Nat.add_zero]
  | ⟨1, _⟩ =>
    show gather_S6x513_S64x576x1_S6x64x576_0_1_n_n_1_2_61.start (ix3 h r k) idx (1 : Fin 2) + 0 + gather_S6x513_S64x576x1_S6x64x576_0_1_n_n_1_2_61.offCoord (ix3 h r k) (1 : Fin 2) = min (idx (ix3 r k 0)).toInt.toNat 512
    rw [s1, o1]; simp only [Nat.zero_add, Nat.add_zero]

end Cert.ReferenceIdeal.Att
-- ==== Proof.RefScore.lean ====
module

public import proofs.«01_k».proof.Proof.RefGather
public import proofs.«01_k».proof.Proof.Spec
public import Idealize.ShloMosaic.Lib.Tactic.WordOmega
public import Idealize.ShloMosaic.Lib.SortNet.Extract

@[expose] public section

set_option maxRecDepth 16384

noncomputable section

namespace Cert.ReferenceIdeal.Att

open Idealize.ShloMosaic Idealize.ShloMosaic.Tactic Idealize.ShloMosaic.Pointwise Cert.ReferenceIdeal Cert.ReferenceIdeal.Value

theorem max_of {n0 n1 n2 n3 n4 : Nat} (S : FVec Ideal ⟨5, ![n0,n1,n2,n3,n4]⟩ .f32) (c : FVec Ideal S_ .f32)
   (hr : (⟨5, ![n0,n1,n2,n3,n4]⟩ : Shape).ReducesTo [4] ⟨4, ![n0,n1,n2,n3]⟩) (hu : 0 < S_.numel) (b : Fin n0) (n : Fin n1) (h : Fin n2) (r : Fin n3) :
    Host.reduce FloatOps.maximumf S c hr hu (ix4 b n h r) = Finset.fold max (c (Shape.Idx.first hu)) (fun k => S (ix5 b n h r k)) Finset.univ :=
  (Host.reduce_eq_fold (FloatOps.maximumf (F := Ideal) (φ := .f32)) S c hr hu (ix4 b n h r)).trans (hr.fold_fiber_r5_a4 (ix4 b n h r) (FloatOps.maximumf (F := Ideal) (φ := .f32)) _ S)

theorem weights_of (S : FVec Ideal S8x128x6x64x576 .f32) (M : FVec Ideal S8x128x6x64 .f32) (b : Fin 8) (n : Fin 128) (h : Fin 6) (r : Fin 64) (k : Fin 576) :
    Host.exp (subf S (broadcastInDim S8x128x6x64x576 ![0, 1, 2, 3, 4] Gen.bcast_S8x128x6x64x1_S8x128x6x64x576_0_1_2_3_4
      (broadcastInDim S8x128x6x64x1 ![0, 1, 2, 3] Gen.bcast_S8x128x6x64_S8x128x6x64x1_0_1_2_3
        (maximumf (broadcastInDim S8x128x6x64 ![] Gen.bcast_S_S8x128x6x64 (constant S_ .f32 0xFF800000#32))
          M))))
      (ix5 b n h r k) =
    Ideal.exp (S (ix5 b n h r k) - max (Ideal.ofBits .f32 0xFF800000#32) (M (ix4 b n h r))) := by
  pointwise []

def sc (w : Valuation τ sig (Elt Ideal)) : FVec Ideal S8x128x6x64x576 .f32 := res_main_v64 w
def wt (w : Valuation τ sig (Elt Ideal)) : FVec Ideal S8x128x6x64x576 .f32 := res_main_v71 w

theorem weights (w) (b : Fin 8) (n : Fin 128) (h : Fin 6) (r : Fin 64) (k : Fin 576) :
    wt w (ix5 b n h r k) = Ideal.exp (sc w (ix5 b n h r k) - max (Ideal.ofBits .f32 0xFF800000#32) (Finset.fold max (Ideal.ofBits .f32 0xFF800000#32) (fun k => sc w (ix5 b n h r k)) Finset.univ)) :=
  (weights_of (sc w) _ b n h r k).trans (congrArg (fun z => Ideal.exp (sc w (ix5 b n h r k) - max (Ideal.ofBits .f32 0xFF800000#32) z))
    (max_of (sc w) _ _ _ b n h r))

theorem pos_word (n : Fin 128) (k : Fin 576) :
    min (Scalar.select (IntOp.cmpi CmpIPredicate.slt (IntOp.addi (IntOp.muli (BitVec.ofNat 32 n) 64#32) (BitVec.ofNat 32 k)) 0#32)
      (IntOp.addi (IntOp.addi (IntOp.muli (BitVec.ofNat 32 n) 64#32) (BitVec.ofNat 32 k)) 8704#32)
      (IntOp.addi (IntOp.muli (BitVec.ofNat 32 n) 64#32) (BitVec.ofNat 32 k))).toInt.toNat 8703 = 64 * n.val + k.val := by
  have e : IntOp.addi (IntOp.muli (BitVec.ofNat 32 n) 64#32) (BitVec.ofNat 32 k) = BitVec.ofNat 32 (64 * n.val + k.val) := by
    show BitVec.ofNat 32 n * 64#32 + BitVec.ofNat 32 k = _
    apply BitVec.eq_of_toNat_eq; simp; omega
  rw [e]
  word_omega

theorem valid_word (n : Fin 128) (k : Fin 576) :
    IntOp.cmpi CmpIPredicate.sge (IntOp.subi (IntOp.addi (IntOp.muli (BitVec.ofNat 32 n) 64#32) (BitVec.ofNat 32 k)) 512#32) 0#32
      = BitVec.ofBool (decide (¬ 64 * n.val + k.val < 512)) := by
  have e : IntOp.addi (IntOp.muli (BitVec.ofNat 32 n) 64#32) (BitVec.ofNat 32 k) = BitVec.ofNat 32 (64 * n.val + k.val) := by
    show BitVec.ofNat 32 n * 64#32 + BitVec.ofNat 32 k = _
    apply BitVec.eq_of_toNat_eq; simp; omega
  rw [e]
  show BitVec.ofBool _ = _
  congr 1
  have h : (BitVec.ofNat 32 (64 * n.val + k.val) - 512#32).toInt = (64 * n.val + k.val : Nat) - 512 := by word_omega
  show BitVec.sle _ _ = _
  rw [BitVec.sle, show IntOp.subi _ _ = BitVec.ofNat 32 (64 * n.val + k.val) - 512#32 from rfl, h]
  simp
  omega

theorem bias_word (r : Fin 64) (k : Fin 576) :
     min
                (Scalar.select
                      (IntOp.cmpi CmpIPredicate.slt
                        (IntOp.addi
                          (IntOp.minsi 256#32
                            (IntOp.maxsi 4294967040#32
                              (IntOp.subi (IntOp.addi (BitVec.ofNat 32 r) 512#32) (BitVec.ofNat 32 k))))
                          256#32)
                        0#32)
                      (IntOp.addi
                        (IntOp.addi
                          (IntOp.minsi 256#32
                            (IntOp.maxsi 4294967040#32
                              (IntOp.subi (IntOp.addi (BitVec.ofNat 32 r) 512#32) (BitVec.ofNat 32 k))))
                          256#32)
                        513#32)
                      (IntOp.addi
                        (IntOp.minsi 256#32
                          (IntOp.maxsi 4294967040#32
                            (IntOp.subi (IntOp.addi (BitVec.ofNat 32 r) 512#32) (BitVec.ofNat 32 k))))
                        256#32)).toInt.toNat
                512 = min (r.val + 768 - k.val) 512 := by
  have hd : (BitVec.ofNat 32 r.val + 512#32 - BitVec.ofNat 32 k.val).toInt = (r.val : Int) + 512 - k.val := by word_omega
  have hd' : (IntOp.subi (IntOp.addi (BitVec.ofNat 32 r) 512#32) (BitVec.ofNat 32 k)).toInt = (r.val : Int) + 512 - k.val := hd
  generalize IntOp.subi (IntOp.addi (BitVec.ofNat 32 r) 512#32) (BitVec.ofNat 32 k) = d at hd' ⊢
  have he : (IntOp.minsi 256#32 (IntOp.maxsi 4294967040#32 d)).toInt = ((min (r.val + 768 - k.val) 512 : Nat) : Int) - 256 := by
    rw [SortNet.toInt_minsi, SortNet.toInt_maxsi, hd', show (256#32).toInt = 256 by decide, show (4294967040#32).toInt = -256 by decide]
    omega
  generalize IntOp.minsi 256#32 (IntOp.maxsi 4294967040#32 d) = e at he ⊢
  have ht : min (r.val + 768 - k.val) 512 ≤ 512 := min_le_right _ _
  generalize min (r.val + 768 - k.val) 512 = t at he ht ⊢
  have h1 : IntOp.addi e 256#32 = BitVec.ofNat 32 t := by
    show e + 256#32 = _
    apply BitVec.eq_of_toInt_eq
    rw [BitVec.toInt_add, he, show BitVec.toInt 256#32 = 256 by decide, BitVec.toInt_ofNat', show (t : Int) - 256 + 256 = t by omega]
  rw [h1]
  clear h1 he hd hd'
  word_omega

open Cert.Att

/-- The arguments the reference reads. -/
def arr (w : Valuation τ sig (Elt Ideal)) : Arr where
  q := w (Proc.devRef .tc main_arg0)
  kv := w (Proc.devRef .tc main_arg1)
  gate := w (Proc.devRef .tc main_arg2)
  rel := w (Proc.devRef .tc main_arg3)
  ya := w (Proc.devRef .tc main_arg4)
  yb := w (Proc.devRef .tc main_arg5)
  x := w (Proc.devRef .tc main_arg6)
  g1 := w (Proc.devRef .tc main_arg7)
  w := w (Proc.devRef .tc main_arg8)
  g := w (Proc.devRef .tc main_arg9)
  b := w (Proc.devRef .tc main_arg10)

theorem select_valid {P : Prop} [Decidable P] {A A' B : EReal} (h : ¬ P → A = A') :
    Scalar.select (BitVec.ofBool (decide (¬ P))) A B = if P then B else A' := by
  by_cases hp : P
  · simp [hp, Scalar.select]
  · simp [hp, Scalar.select, h hp]

set_option maxHeartbeats 1000000 in
theorem score_ap (w) (b : Fin 8) (n : Fin 128) (h : Fin 6) (r : Fin 64) (k : Fin 576) :
    sc w (ix5 b n h r k) = score (arr w).q (arr w).kv (arr w).rel b n h r k := by
  pointwise [sc, res_main_v64, gather_band, gather_bias, res_main_v36, res_main_v20, res_main_v1]
  have h256 : (id (constantI S_ 32 256#32) ix0 : BitVec 32) = 256#32 := rfl
  have hm256 : (id (constantI S_ 32 4294967040#32) ix0 : BitVec 32) = 4294967040#32 := rfl
  have hbot : (id (constant (F := Ideal) S_ .f32 4286578688#32) ix0 : EReal) = ⊥ := bot_f32
  simp only [pos_word, valid_word, h256, hm256, bias_word, hbot, eighth_f32]
  refine select_valid fun hx => ?_
  refine congrArg₂ (fun a b : EReal => a + b) (congrArg (fun a : EReal => a * _) ?_) rfl
  refine Finset.sum_congr rfl fun x _ => congrArg (fun a : EReal => _ * a) ?_
  exact dif_pos ⟨⟨by omega, by omega⟩, by omega⟩

end Cert.ReferenceIdeal.Att
-- ==== Proof.RefValue.lean ====
module

public import proofs.«01_k».proof.Proof.RefScore

@[expose] public section

set_option maxRecDepth 16384

noncomputable section

namespace Cert.ReferenceIdeal.Att

open Idealize.ShloMosaic Idealize.ShloMosaic.Tactic Idealize.ShloMosaic.Pointwise Cert.ReferenceIdeal Cert.ReferenceIdeal.Value Cert.Att

/-- The weight of key `x`: the exponential of its score above the largest of the band. -/
theorem weight_ap (w) (b : Fin 8) (n : Fin 128) (h : Fin 6) (r : Fin 64) (k : Fin 576) :
    wt w (ix5 b n h r k) = Ideal.exp (score (arr w).q (arr w).kv (arr w).rel b n h r k
      - top (score (arr w).q (arr w).kv (arr w).rel b n h r)) := by
  rw [weights]
  simp only [score_ap]
  rw [bot_f32, max_eq_right bot_le, top, bot_f32]

theorem value_ap (kv : A3 8 8192 768) (b : Fin 8) (n : Fin 128) (l : Fin 384) (k : Fin 576) (N L L' : Nat)
    (hN : N = 64 * n.val + k.val) (hL : L < 384 ↔ True) (hL' : L' = 384 + l.val)
    (hp : (512 ≤ N ∧ N - 512 < 8192) ∧ L < 384 → N - 512 < 8192 ∧ L' < 768) :
    (if h : (512 ≤ N ∧ N - 512 < 8192) ∧ L < 384 then kv (ix3 b ⟨N - 512, (hp h).1⟩ ⟨L', (hp h).2⟩) else
      (FloatOps.sitofp .f32 (0#32 : BitVec 32) : Ideal .f32)) = value kv b n l k := by
  subst hN hL'
  unfold value
  by_cases hx : 64 * n.val + k.val < 512
  · rw [if_pos hx, dif_neg (by omega)]
    show (((0#32 : BitVec 32).toInt : ℝ) : EReal) = 0
    simp
  · rw [if_neg hx, dif_pos ⟨⟨by omega, by omega⟩, hL.2 trivial⟩]

theorem attnR_ap (w) (b : Fin 8) (n : Fin 128) (h : Fin 6) (r : Fin 64) (v v' : Fin 576 → EReal) (hv : ∀ x, v x = v' x) :
    ∑ x, v x * Ideal.div (wt w (ix5 b n h r x)) (∑ y, wt w (ix5 b n h r y))
      = attnR (score (arr w).q (arr w).kv (arr w).rel b n h r) v' := by
  simp only [weight_ap, hv]
  rfl

theorem sum_step {f g : Fin 1024 → EReal} (h : ∀ x, f x = g x) (u : Fin 1024 → EReal) (p q : EReal) :
    p + q * ∑ x, f x * u x = p + q * ∑ x, g x * u x := by simp only [h]

set_option maxHeartbeats 2000000 in
/-- The row before its normalization. -/
theorem resid_ap (w) (hf : Finite (arr w).q (arr w).kv (arr w).rel) (b : Fin 8) (T : Fin 8192) (j : Fin 1024) :
    (res_main_v86 (F := Ideal) w : FVec Ideal S8x8192x1024 .f32) (ix3 b T j) = resid (arr w) b T j := by
  pointwise [res_main_v86, gather_band, res_main_v36, res_main_v1]
  refine sum_step (fun x => ?_) _ _ _
  refine dite_congr rfl (fun h => rfl) fun h => dite_congr rfl (fun h' => rfl) fun h' => ?_
  refine congrArg₂ (fun a b : EReal => a * b) rfl ?_
  refine (attnR_ap w b ⟨T.val / 64, by omega⟩ ⟨(x.val - 256 - 384) / 64, by omega⟩ ⟨T.val % 64, by omega⟩ _ _ fun k => ?_).trans (attn_score hf _ _ _ _ _).symm
  refine value_ap (arr w).kv b ⟨T.val / 64, by omega⟩ ⟨x.val - 640, by omega⟩ k _ _ _ (pos_word ⟨T.val / 64, by omega⟩ k) (by simp; omega) (by show _ = 384 + (x.val - 640); omega) (fun h => ⟨h.1.2, ?_⟩)
  have := h.2
  omega

/-- The mean of the row. -/
theorem mean_ap (w) (hf : Finite (arr w).q (arr w).kv (arr w).rel) (b : Fin 8) (T : Fin 8192) :
    (res_main_v90 (F := Ideal) w : FVec Ideal S8x8192x1 .f32) (ix3 b T 0) = mean (resid (arr w) b T) := by
  pointwise [res_main_v90]
  exact congrArg (fun z => Ideal.div z _) (Finset.sum_congr rfl fun x _ => resid_ap w hf b T x)

theorem centred_ap (w) (hf : Finite (arr w).q (arr w).kv (arr w).rel) (b : Fin 8) (T : Fin 8192) (j : Fin 1024) :
    (res_main_v92 (F := Ideal) w : FVec Ideal S8x8192x1024 .f32) (ix3 b T j) = resid (arr w) b T j - mean (resid (arr w) b T) := by
  pointwise [res_main_v92]
  exact congrArg₂ (fun x y : EReal => x - y) (resid_ap w hf b T j) (mean_ap w hf b T)

theorem lnorm_of (z : Fin 1024 → EReal) (g b : A1 1024) (j : Fin 1024) {p q : EReal} {v : Fin 1024 → EReal} (hp : p = z j)
    (hq : q = mean z) (hv : ∀ x, v x = z x - mean z) :
    (p - q) * Ideal.rsqrt (Ideal.div (∑ x, v x * v x) (Ideal.ofBits .f32 1149239296#32) + Ideal.ofBits .f32 925353388#32)
      * g (ix1 j) + b (ix1 j) = lnorm z g b j := by
  simp only [hp, hq, hv]
  rfl

theorem out_ap (w) (hf : Finite (arr w).q (arr w).kv (arr w).rel) :
  addf (mulf (mulf (subf (res_main_v86 w) (broadcastInDim S8x8192x1024 ![0, 1, 2] Gen.bcast_S8x8192x1_S8x8192x1024_0_1_2 (res_main_v90 w))) (broadcastInDim S8x8192x1024 ![0, 1, 2] Gen.bcast_S8x8192x1_S8x8192x1024_0_1_2 (Host.rsqrt (addf (Host.divf (broadcastInDim S8x8192x1 ![0, 1] Gen.bcast_S8x8192_S8x8192x1_0_1 (Host.reduceAdd (mulf (res_main_v92 w) (res_main_v92 w)) (constant S_ .f32 0x00000000#32) Gen.reducesTo_S8x8192x1024_S8x8192_d2 Gen.h_S_)) (broadcastInDim S8x8192x1 ![] Gen.bcast_S_S8x8192x1 (constant S_ .f32 0x44800000#32))) (broadcastInDim S8x8192x1 ![] Gen.bcast_S_S8x8192x1 (constant S_ .f32 0x3727C5AC#32)))))) (broadcastInDim S8x8192x1024 ![0, 1, 2] Gen.bcast_S1x1x1024_S8x8192x1024_0_1_2 (broadcastInDim S1x1x1024 ![2] Gen.bcast_S1024_S1x1x1024_2 (w (Proc.devRef .tc main_arg9))))) (broadcastInDim S8x8192x1024 ![0, 1, 2] Gen.bcast_S1x1x1024_S8x8192x1024_0_1_2 (broadcastInDim S1x1x1024 ![2] Gen.bcast_S1024_S1x1x1024_2 (w (Proc.devRef .tc main_arg10))))
    = (result (arr w) : FVec Ideal S8x8192x1024 .f32) := by
  funext i
  idx_vars i
  pointwise []
  exact lnorm_of (resid (arr w) i0 i1) (arr w).g (arr w).b i2 (resid_ap w hf i0 i1 i2) (mean_ap w hf i0 i1)
    fun x => centred_ap w hf i0 i1 x

end Cert.ReferenceIdeal.Att
-- ==== Proof.SguSpec.lean ====
/- What the layer's projection call computes, as functions of its arrays over the extended reals: the modulated row and
   its projection, the token shift, the gates, and the spatial gating of a chunk of 128 frames. -/
module

public import proofs.«01_k».proof.Proof.Spec

@[expose] public section

noncomputable section

namespace Cert.Sgu

open Idealize.ShloMosaic Idealize.ShloMosaic.Pointwise Cert.Att

/-- The number sixty-four, and its inverse as the kernel writes it. -/
theorem n64_f32 : Ideal.ofBits .f32 1115684864#32 = ((64 : ℝ) : EReal) := by
  simp [Ideal.ofBits, Ideal.ieee, -EReal.coe_mul]; norm_num

theorem i64_f32 : Ideal.ofBits .f32 1015021568#32 = (((1 : ℝ) / 64 : ℝ) : EReal) := by
  simp [Ideal.ofBits, Ideal.ieee, -EReal.coe_mul]; norm_num

/-- A value times its logistic function. -/
def silu (z : EReal) : EReal := z * Ideal.div 1 (1 + Ideal.exp (-z))

theorem silu_sub (z : EReal) : z * Ideal.div 1 (1 + Ideal.exp (0 - z)) = silu z := by
  rw [zero_sub]; rfl

/-- The mean over a head's 64 lanes. -/
def mean64 (f : Fin 64 → EReal) : EReal := Ideal.div (∑ d, f d) (Ideal.ofBits .f32 1115684864#32)

theorem mean64_mul (f : Fin 64 → EReal) : (∑ d, f d) * Ideal.ofBits .f32 1015021568#32 = mean64 f := by
  rw [mean64, n64_f32, i64_f32, Ideal.div_coe (by norm_num)]

theorem mean64_real {f : Fin 64 → EReal} (h : ∀ d, ∃ a : ℝ, f d = (a : EReal)) : ∃ a : ℝ, mean64 f = (a : EReal) := by
  choose f' hf using h
  rw [← mean64_mul, Finset.sum_congr rfl fun d _ => hf d, ← coe_sum, i64_f32, ← EReal.coe_mul]
  exact ⟨_, rfl⟩

theorem sub_real {x y : EReal} (hx : ∃ a : ℝ, x = (a : EReal)) (hy : ∃ a : ℝ, y = (a : EReal)) : ∃ a : ℝ, x - y = (a : EReal) := by
  obtain ⟨a, rfl⟩ := hx
  obtain ⟨b, rfl⟩ := hy
  exact ⟨a - b, (EReal.coe_sub a b).symm⟩

theorem mul_real {x y : EReal} (hx : ∃ a : ℝ, x = (a : EReal)) (hy : ∃ a : ℝ, y = (a : EReal)) : ∃ a : ℝ, x * y = (a : EReal) := by
  obtain ⟨a, rfl⟩ := hx
  obtain ⟨b, rfl⟩ := hy
  exact ⟨a * b, (EReal.coe_mul a b).symm⟩

theorem add_real {x y : EReal} (hx : ∃ a : ℝ, x = (a : EReal)) (hy : ∃ a : ℝ, y = (a : EReal)) : ∃ a : ℝ, x + y = (a : EReal) := by
  obtain ⟨a, rfl⟩ := hx
  obtain ⟨b, rfl⟩ := hy
  exact ⟨a + b, (EReal.coe_add a b).symm⟩

theorem sum_real {ι : Type} (s : Finset ι) {f : ι → EReal} (h : ∀ i, ∃ a : ℝ, f i = (a : EReal)) : ∃ a : ℝ, ∑ i ∈ s, f i = (a : EReal) := by
  choose f' hf using h
  rw [Finset.sum_congr rfl fun d _ => hf d, ← coe_sum]
  exact ⟨_, rfl⟩

theorem sub_self_real {x : EReal} (hx : ∃ a : ℝ, x = (a : EReal)) : x - x = 0 := by
  obtain ⟨a, rfl⟩ := hx
  rw [← EReal.coe_sub, sub_self, EReal.coe_zero]

/-- The lane `d` of head `h` among 256. -/
def lane (h : Fin 4) (d : Fin 64) : Fin 256 := ⟨h.val * 64 + d.val, by omega⟩

/-- A row of 256 lanes, less its heads' means. -/
def cen (v : Fin 256 → EReal) (j : Fin 256) : EReal := v j - mean64 fun d => v (lane ⟨j.val / 64, by omega⟩ d)

/-- The layer normalization of each head of a row of 256 lanes. -/
def lnh (v g b : Fin 256 → EReal) (j : Fin 256) : EReal :=
  cen v j * Ideal.rsqrt (mean64 (fun d => cen v (lane ⟨j.val / 64, by omega⟩ d) * cen v (lane ⟨j.val / 64, by omega⟩ d))
    + Ideal.ofBits .f32 925353388#32) * g j + b j

theorem cen_real {v : Fin 256 → EReal} (h : ∀ j, ∃ a : ℝ, v j = (a : EReal)) (j : Fin 256) : ∃ a : ℝ, cen v j = (a : EReal) :=
  sub_real (h j) (mean64_real fun d => h _)

/-- The lower triangle of a head's spatial weights, applied to a chunk of rows, at row `t` and lane `j`. -/
def mixS (w : Fin 128 → EReal) (v : Fin 128 → EReal) (t : Fin 128) : EReal :=
  ∑ s : Fin 128, v s * (if s.val ≤ t.val then w s else 0)

/-! ### The arrays -/

/-- The arguments of the call. -/
structure Arr where
  x : A3 8 8192 1024
  sc : A3 8 1 1024
  sh : A3 8 1 1024
  w : A2 1024 3968
  mu : A1 1280
  g : A1 256
  b : A1 256
  ws : A3 4 128 128
  bs : A2 4 128

/-- The modulated row. -/
def mrow (a : Arr) (b : Fin 8) (T : Fin 8192) (d : Fin 1024) : EReal :=
  a.x (ix3 b T d) * (1 + a.sc (ix3 b 0 d)) + a.sh (ix3 b 0 d)

/-- Its projection, at column `j`. -/
def proj (a : Arr) (b : Fin 8) (T : Fin 8192) (j : Fin 3968) : EReal := ∑ d, mrow a b T d * a.w (ix2 d j)

/-- The projection of the frame before; zero at a sequence's start. -/
def prev (a : Arr) (b : Fin 8) (T : Fin 8192) (j : Fin 3968) : EReal :=
  if T.val = 0 then 0 else proj a b ⟨T.val - 1, by omega⟩ j

def xs (a : Arr) : A3 8 8192 1280 := fun i =>
  proj a (i 0) (i 1) ⟨768 + (i 2).val, by have : (i 2).val < 1280 := (i 2).isLt; omega⟩
    + (prev a (i 0) (i 1) ⟨768 + (i 2).val, by have : (i 2).val < 1280 := (i 2).isLt; omega⟩
      - proj a (i 0) (i 1) ⟨768 + (i 2).val, by have : (i 2).val < 1280 := (i 2).isLt; omega⟩) * a.mu (ix1 (i 2))

def gb (a : Arr) : A3 8 8192 384 := fun i =>
  silu (proj a (i 0) (i 1) ⟨2048 + (i 2).val, by have : (i 2).val < 384 := (i 2).isLt; omega⟩)

def gc (a : Arr) : A3 8 8192 384 := fun i =>
  silu (proj a (i 0) (i 1) ⟨3584 + (i 2).val, by have : (i 2).val < 384 := (i 2).isLt; omega⟩)

def qc (a : Arr) : A3 8 8192 384 := fun i =>
  proj a (i 0) (i 1) ⟨2432 + (i 2).val, by have : (i 2).val < 384 := (i 2).isLt; omega⟩

def kvc (a : Arr) : A3 8 8192 768 := fun i =>
  proj a (i 0) (i 1) ⟨2816 + (i 2).val, by have : (i 2).val < 768 := (i 2).isLt; omega⟩

/-- The gated stream's second half, normalized. -/
def vnorm (a : Arr) (b : Fin 8) (T : Fin 8192) (j : Fin 256) : EReal :=
  lnh (fun j => proj a b T ⟨256 + j.val, by omega⟩) (fun j => a.g (ix1 j)) (fun j => a.b (ix1 j)) j

/-- The spatial gate of frame `T` at lane `j`: its chunk's rows up to its own, weighed. -/
def spat (a : Arr) (b : Fin 8) (T : Fin 8192) (j : Fin 256) : EReal :=
  mixS (fun s => a.ws (ix3 ⟨j.val / 64, by omega⟩ ⟨T.val % 128, by omega⟩ s))
    (fun s => vnorm a b ⟨T.val / 128 * 128 + s.val, by omega⟩ j) ⟨T.val % 128, by omega⟩
  + a.bs (ix2 ⟨j.val / 64, by omega⟩ ⟨T.val % 128, by omega⟩)

def yaAt (a : Arr) (b : Fin 8) (T : Fin 8192) (j : Fin 256) : EReal :=
  silu (proj a b T ⟨512 + j.val, by omega⟩) * (proj a b T ⟨j.val, by omega⟩ * spat a b T j)

def ya (a : Arr) : A3 8 8192 256 := fun i => yaAt a (i 0) (i 1) (i 2)

/-- The rows, their modulation and the columns of the normalized half are numbers. -/
def Finite (a : Arr) : Prop :=
  (∀ i, ∃ r : ℝ, a.x i = (r : EReal)) ∧ (∀ i, ∃ r : ℝ, a.sc i = (r : EReal)) ∧ (∀ i, ∃ r : ℝ, a.sh i = (r : EReal))
    ∧ ∀ d, ∀ j : Fin 256, ∃ r : ℝ, a.w (ix2 d ⟨256 + j.val, by omega⟩) = (r : EReal)

theorem proj_real {a : Arr} (h : Finite a) (b : Fin 8) (T : Fin 8192) (j : Fin 256) :
    ∃ r : ℝ, proj a b T ⟨256 + j.val, by omega⟩ = (r : EReal) :=
  sum_real _ fun d => mul_real (add_real (mul_real (h.1 _) (add_real ⟨1, EReal.coe_one.symm⟩ (h.2.1 _))) (h.2.2.1 _)) (h.2.2.2 d j)

end Cert.Sgu
-- ==== Proof.Mod.lean ====
/- The modulation call: the kernel's array and the reference's result are one function of the condition, the weights and
   the biases. -/
module

public import Idealize.ShloMosaic.Lib.Pipeline.ValueKit
public import Idealize.ShloMosaic.Lib.Pipeline.ReadBack
public import Idealize.ShloMosaic.Lib.Pointwise
public import proofs.«01_k».proof.Proof.SguSpec
public import proofs.«01_k».proof.Proof.Gen.Kernel3Ideal.Value
public import proofs.«01_k».proof.Proof.Gen.Reference3Ideal.Run

@[expose] public section

set_option maxRecDepth 16384
set_option maxHeartbeats 1000000

noncomputable section

namespace Cert.Ada

open Idealize.ShloMosaic Idealize.ShloMosaic.Pointwise Cert.Att Cert.Sgu

/-- The modulation of every batch entry: its activated condition, projected and shifted. -/
def result (cond : A2 8 1024) (w : A2 1024 3072) (b : A1 3072) : A2 8 3072 := fun i =>
  (∑ d, silu (cond (ix2 (i 0) d)) * w (ix2 d (i 1))) + b (ix1 (i 1))

end Cert.Ada

namespace Cert.Kernel3Ideal.Ada

open Idealize.ShloMosaic Idealize.ShloMosaic.TcCoe Idealize.ShloMosaic.Tactic Idealize.ShloMosaic.Pointwise Cert.Kernel3Ideal Cert.Kernel3Ideal.Gen Cert.Ada Cert.Sgu

variable (m : (ℓ : Loc nD τ sig) → Buf (Elt Ideal) ℓ)

/-- The body's value at one entry. -/
theorem pay1_apply (x₀ : Vec Ideal S8x1024 .f32) (x₁ : Vec Ideal S1024x3072 .bf16) (x₂ : Vec Ideal S1x3072 .f32) (b : Fin 8) (j : Fin 3072) :
    k0_pay1 (F := Ideal) x₀ x₁ x₂ (ix2 b j) = (∑ d, silu (x₀ (ix2 b d)) * x₁ (ix2 d j)) + x₂ (ix2 0 j) := by
  pointwise [k0_pay1]
  simp only [silu_sub]

/-- The only grid point's blocks are the whole arrays. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem rd0 (c : Dev nD) (t : Fin cfg0.N) (b : Fin 8) (d : Fin 1024) :
    iblk m c 0 t (ix2 b d) = m ((c : Thread nD τ).loc main_arg0) (ix2 b d) := by
  have hb := (idx t).1
  rw [← V_main_arg0 m c]
  blk_ext [iblk, hb]

theorem rd1 (c : Dev nD) (t : Fin cfg0.N) (d : Fin 1024) (j : Fin 3072) :
    iblk m c 1 t (ix2 d j) = m ((c : Thread nD τ).loc main_arg1) (ix2 d j) := by
  have hb := (idx t).2.1
  have e : iblk m c 1 t (ix2 d j) = V m c main_v0 (ix2 d j) := by
    blk_ext [iblk, hb]
  rw [e]
  entry_read
  pointwise

theorem rd2 (c : Dev nD) (t : Fin cfg0.N) (j : Fin 3072) :
    iblk m c 2 t (ix2 0 j) = m ((c : Thread nD τ).loc main_arg2) (ix1 j) := by
  have hb := (idx t).2.2.1
  have e : iblk m c 2 t (ix2 0 j) = V m c main_v1 (ix2 0 j) := by
    blk_ext [iblk, hb]
  rw [e]
  entry_read
  pointwise

theorem block (c : Dev nD) (t : Fin cfg0.N) (b : Fin 8) (j : Fin 3072) :
    out0_3 (iblk m c 0 t) (iblk m c 1 t) (iblk m c 2 t) (ix2 b j)
      = result (m ((c : Thread nD τ).loc main_arg0)) (m ((c : Thread nD τ).loc main_arg1)) (m ((c : Thread nD τ).loc main_arg2)) (ix2 b j) := by
  have e : out0_3 (iblk m c 0 t) (iblk m c 1 t) (iblk m c 2 t) = k0_pay1 (F := Ideal) (iblk m c 0 t) (iblk m c 1 t) (iblk m c 2 t) := by
    unfold out0_3
    frame_open
    frame_out
  rw [e, pay1_apply]
  exact congrArg₂ (fun a b : EReal => a + b)
    (Finset.sum_congr rfl fun d _ => congrArg₂ (fun a b : EReal => a * b) (congrArg silu (rd0 m c t b d)) (rd1 m c t d j)) (rd2 m c t j)

theorem array (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨b, j, rfl⟩ : ∃ (b : Fin 8) (j : Fin 3072), y = ix2 b j := ⟨y 0, y 1, by
    funext a; fin_cases a <;> rfl⟩
  have hb := (idx t).2.2.2
  refine (congrFun (Value.flushed3 m c t) _).trans ?_
  refine Eq.trans (block m c t b j) ?_
  blk_ext [hb]

end Cert.Kernel3Ideal.Ada

namespace Cert.Reference3Ideal.Ada

open Idealize.ShloMosaic Idealize.ShloMosaic.TcCoe Idealize.ShloMosaic.Tactic Idealize.ShloMosaic.Pointwise Cert.Reference3Ideal Cert.Reference3Ideal.Gen Cert.Ada Cert.Sgu

variable (m : (ℓ : Loc nD τ sig) → Buf (Elt Ideal) ℓ)

theorem out (c : Dev nD) : (addf (Host.dotGeneral (φ₁ := .f32) (φ₂ := .f32) dot_S8x1024_S1024x3072_S8x3072_1_0_0_1_n_n none (mulf (m ((c.tc : Thread nD τ).loc main_arg0)) (Host.divf (broadcastInDim S8x1024 ![] bcast_S_S8x1024 (constant S_ .f32 0x3F800000#32)) (addf (broadcastInDim S8x1024 ![] bcast_S_S8x1024 (constant S_ .f32 0x3F800000#32)) (Host.exp (Host.negf (m ((c.tc : Thread nD τ).loc main_arg0))))))) (m ((c.tc : Thread nD τ).loc main_arg1))) (broadcastInDim S8x3072 ![0, 1] bcast_S1x3072_S8x3072_0_1 (broadcastInDim S1x3072 ![1] bcast_S3072_S1x3072_1 (m ((c.tc : Thread nD τ).loc main_arg2)))) : FVec Ideal S8x3072 .f32)
    = result (m ((c.tc : Thread nD τ).loc main_arg0)) (m ((c.tc : Thread nD τ).loc main_arg1)) (m ((c.tc : Thread nD τ).loc main_arg2)) := by
  funext i
  idx_vars i
  pointwise
  rfl

end Cert.Reference3Ideal.Ada
-- ==== Proof.SguBlock.lean ====
/- The pieces of the projection kernel's block, entry by entry: the projected rows, the shifted columns, the gates. -/
module

public import Idealize.ShloMosaic.Lib.Pipeline.ValueKit
public import Idealize.ShloMosaic.Lib.Pipeline.ReadBack
public import Idealize.ShloMosaic.Lib.Pointwise
public import proofs.«01_k».proof.Proof.Gen.Kernel2Ideal.Skeleton
public import proofs.«01_k».proof.Proof.SguSpec

@[expose] public section

set_option maxRecDepth 16384
set_option maxHeartbeats 1000000

noncomputable section

namespace Cert.Kernel2Ideal.Sgu

open Idealize.ShloMosaic Idealize.ShloMosaic.Tactic Idealize.ShloMosaic.Pointwise Cert.Kernel2Ideal.Gen Cert.Sgu

/-- A block's modulated row. -/
def hrow (x₀ : Vec Ideal S1x512x1024 .f32) (x₁ x₂ : Vec Ideal S1x1x1024 .f32) (r : Fin 512) (d : Fin 1024) : EReal :=
  x₀ (ix3 0 r d) * x₁ (ix3 0 0 d) + x₂ (ix3 0 0 d)

variable (x₀ : Vec Ideal S1x512x1024 .f32) (x₁ x₂ : Vec Ideal S1x1x1024 .f32)

theorem pay4_apply (w : Vec Ideal S1024x768 .bf16) (r : Fin 512) (j : Fin 768) :
    k0_pay4 (F := Ideal) x₀ x₁ x₂ w (ix2 r j) = ∑ d, hrow x₀ x₁ x₂ r d * w (ix2 d j) := by
  pointwise [k0_pay4, k0_pay3]
  rfl

theorem pay5_apply (w : Vec Ideal S1024x1280 .bf16) (r : Fin 512) (j : Fin 1280) :
    k0_pay5 (F := Ideal) x₀ x₁ x₂ w (ix2 r j) = ∑ d, hrow x₀ x₁ x₂ r d * w (ix2 d j) := by
  pointwise [k0_pay5, k0_pay3]
  rfl

theorem pay6_apply (w : Vec Ideal S1024x768 .bf16) (r : Fin 512) (j : Fin 768) :
    k0_pay6 (F := Ideal) x₀ x₁ x₂ w (ix2 r j) = ∑ d, hrow x₀ x₁ x₂ r d * w (ix2 d j) := by
  pointwise [k0_pay6, k0_pay3]
  rfl

theorem pay7_apply (w : Vec Ideal S1024x1152 .bf16) (r : Fin 512) (j : Fin 1152) :
    k0_pay7 (F := Ideal) x₀ x₁ x₂ w (ix2 r j) = ∑ d, hrow x₀ x₁ x₂ r d * w (ix2 d j) := by
  pointwise [k0_pay7, k0_pay3]
  rfl

theorem row_word (r : Fin 512) : IntOp.cmpi CmpIPredicate.eq (BitVec.ofNat 32 r.val) 0#32 = BitVec.ofBool (decide (r.val = 0)) := by
  revert r; decide +kernel

/-- The shifted columns: a row is drawn towards the row before it; the first row's is `prv`. -/
theorem pay10_apply (p : FVec Ideal S512x1280 .f32) (prv mu : Vec Ideal S1x1280 .f32) (r : Fin 512) (j : Fin 1280) :
    k0_pay10 (F := Ideal) p k0_pay8 prv 1#32 mu (ix3 0 r j)
      = p (ix2 r j) + ((if r.val = 0 then prv (ix2 0 j) else p (ix2 ⟨r.val - 1, by omega⟩ j)) - p (ix2 r j)) * mu (ix2 0 j) := by
  pointwise [k0_pay10, k0_pay8, row_word]
  by_cases h : r.val = 0
  · rw [if_pos h, if_pos h]
  · rw [if_neg h, if_neg h]
    have e : (⟨(r.val + 512 - 1) % 512, Nat.mod_lt _ (by omega)⟩ : Fin 512) = ⟨r.val - 1, by omega⟩ := Fin.ext (by
      show (r.val + 512 - 1) % 512 = r.val - 1
      omega)
    rw [e]

theorem pay9_apply (p : FVec Ideal S512x1280 .f32) (r : Fin 8) (j : Fin 1280) :
    k0_pay9 (F := Ideal) p (ix2 r j) = p (ix2 ⟨504 + r.val, by omega⟩ j) := by
  pointwise [k0_pay9]

theorem pay2_apply (i) : k0_pay2 (F := Ideal) i = (0 : EReal) := by
  idx_vars i
  pointwise [k0_pay2]

theorem pay11_apply (p : FVec Ideal S512x768 .f32) (r : Fin 512) (j : Fin 384) :
    k0_pay11 (F := Ideal) p (ix3 0 r j) = silu (p (ix2 r ⟨j.val, by omega⟩)) := by
  pointwise [k0_pay11]
  exact silu_sub _

theorem pay13_apply (p : FVec Ideal S512x768 .f32) (r : Fin 512) (j : Fin 384) :
    k0_pay13 (F := Ideal) (k0_pay12 p) (ix3 0 r j) = silu (p (ix2 r ⟨384 + j.val, by omega⟩)) := by
  pointwise [k0_pay13, k0_pay12]
  exact silu_sub _

theorem pay14_apply (p : FVec Ideal S512x1152 .f32) (r : Fin 512) (j : Fin 384) :
    k0_pay14 (F := Ideal) p (ix3 0 r j) = p (ix2 r ⟨j.val, by omega⟩) := by
  pointwise [k0_pay14]

theorem pay15_apply (p : FVec Ideal S512x1152 .f32) (r : Fin 512) (j : Fin 768) :
    k0_pay15 (F := Ideal) p (ix3 0 r j) = p (ix2 r ⟨384 + j.val, by omega⟩) := by
  pointwise [k0_pay15]

/-! ### The normalized half -/

/-- The kernel's table of ones: lanes of one head among 128. -/
def IsSeg (s : Vec Ideal S256x128 .bf16) : Prop :=
  ∀ (k : Fin 256) (j : Fin 128), s (ix2 k j) = if k.val % 128 / 64 = j.val / 64 then (1 : EReal) else 0

theorem head_sum (f : Fin 128 → EReal) (h : Fin 2) :
    ∑ x : Fin 128, f x * (if x.val / 64 = h.val then (1 : EReal) else 0) = ∑ d : Fin 64, f ⟨h.val * 64 + d.val, by omega⟩ := by
  rw [show (∑ x : Fin 128, f x * (if x.val / 64 = h.val then (1 : EReal) else 0)) = ∑ x : Fin (64 + 64), f x * (if x.val / 64 = h.val then (1 : EReal) else 0) from rfl, Fin.sum_univ_add]
  fin_cases h
  · rw [Finset.sum_eq_zero (s := Finset.univ) (f := fun i : Fin 64 => f (Fin.natAdd 64 i) * _), add_zero]
    · refine Finset.sum_congr rfl fun d _ => ?_
      rw [if_pos (by show d.val / 64 = 0; omega), mul_one]
      exact congrArg f (Fin.ext (by show d.val = 0 * 64 + d.val; omega))
    · intro d _
      rw [if_neg (by show ¬(64 + d.val) / 64 = 0; omega), mul_zero]
  · rw [Finset.sum_eq_zero (s := Finset.univ) (f := fun i : Fin 64 => f (Fin.castAdd 64 i) * _), zero_add]
    · refine Finset.sum_congr rfl fun d _ => ?_
      rw [if_pos (by show (64 + d.val) / 64 = 1; omega), mul_one]
      exact congrArg f (Fin.ext (by show 64 + d.val = 1 * 64 + d.val; omega))
    · intro d _
      rw [if_neg (by show ¬d.val / 64 = 1; omega), mul_zero]

/-- Where a half of 128 lanes is numbers, the sum of the values and of their remainders is the sum over the lane's head. -/
theorem seg_sum (s : Vec Ideal S256x128 .bf16) (hs : IsSeg s) (f : Fin 128 → EReal) (hf : ∀ k, ∃ a : ℝ, f k = (a : EReal)) (j : Fin 128) :
    ∑ x : Fin 128, f x * s (ix2 ⟨x.val, by omega⟩ j) + ∑ x : Fin 128, (f x - f x) * s (ix2 ⟨128 + x.val, by omega⟩ j)
      = ∑ d : Fin 64, f ⟨j.val / 64 * 64 + d.val, by omega⟩ := by
  rw [Finset.sum_eq_zero (f := fun x : Fin 128 => (f x - f x) * _) fun x _ => by rw [sub_self_real (hf x), zero_mul], add_zero]
  refine Eq.trans (Finset.sum_congr rfl fun x _ => ?_) (head_sum f ⟨j.val / 64, by omega⟩)
  refine congrArg _ ((hs _ _).trans (if_congr ?_ rfl rfl))
  show x.val % 128 / 64 = j.val / 64 ↔ x.val / 64 = j.val / 64
  rw [Nat.mod_eq_of_lt x.isLt]

theorem pay18_apply (p : FVec Ideal S512x768 .f32) (s : Vec Ideal S256x128 .bf16) (hs : IsSeg s) (r : Fin 512)
    (hf : ∀ j : Fin 256, ∃ a : ℝ, p (ix2 r ⟨256 + j.val, by omega⟩) = (a : EReal)) (j : Fin 256) :
    k0_pay18 (F := Ideal) p s s (ix2 r j) = cen (fun j => p (ix2 r ⟨256 + j.val, by omega⟩)) j := by
  pointwise [k0_pay18]
  unfold cen
  rw [← mean64_mul]
  refine congrArg (fun z : EReal => _ - z * _) ?_
  by_cases h : j.val < 128
  · rw [dif_pos h]
    refine (seg_sum s hs (fun x => p (ix2 r ⟨256 + x.val, by omega⟩)) (fun x => hf ⟨x.val, by omega⟩) ⟨j.val, h⟩).trans ?_
    rfl
  · rw [dif_neg h]
    refine (seg_sum s hs (fun x => p (ix2 r ⟨256 + (128 + x.val), by omega⟩)) (fun x => hf ⟨128 + x.val, by omega⟩) ⟨j.val - 128, by omega⟩).trans ?_
    refine Finset.sum_congr rfl fun d _ => congrArg p (congrArg (ix2 r) (Fin.ext ?_))
    show 256 + (128 + ((j.val - 128) / 64 * 64 + d.val)) = 256 + (j.val / 64 * 64 + d.val)
    omega

/-- The rows that the spatial weights take: the normalized half. -/
theorem pay23_apply (p : FVec Ideal S512x768 .f32) (s : Vec Ideal S256x128 .bf16) (hs : IsSeg s) (g b : Vec Ideal S1x256 .f32) (r : Fin 512)
    (hf : ∀ j : Fin 256, ∃ a : ℝ, p (ix2 r ⟨256 + j.val, by omega⟩) = (a : EReal)) (j : Fin 256) :
    k0_pay23 (F := Ideal) (k0_pay18 p s s) (k0_pay19 p s s) (k0_pay21 p s s) (k0_pay22 p s s) s s g b (ix2 r j)
      = lnh (fun j => p (ix2 r ⟨256 + j.val, by omega⟩)) (fun j => g (ix2 0 j)) (fun j => b (ix2 0 j)) j := by
  have hc := pay18_apply p s hs r hf
  have hr : ∀ k : Fin 256, ∃ a : ℝ, k0_pay18 (F := Ideal) p s s (ix2 r k) * k0_pay18 (F := Ideal) p s s (ix2 r k) = (a : EReal) := fun k =>
    have h := cen_real hf k
    (hc k).symm ▸ mul_real h h
  pointwise [k0_pay23, k0_pay22, k0_pay21, k0_pay20, k0_pay19]
  unfold lnh
  rw [hc, ← mean64_mul]
  refine congrArg (fun z : EReal => cen (fun j => p (ix2 r ⟨256 + j.val, by omega⟩)) j * Ideal.rsqrt (z * Ideal.ofBits .f32 1015021568#32 + Ideal.ofBits .f32 925353388#32) * g (ix2 0 j) + b (ix2 0 j)) ?_
  by_cases h : j.val < 128
  · rw [dif_pos h]
    refine (seg_sum s hs (fun x => k0_pay18 (F := Ideal) p s s (ix2 r ⟨x.val, by omega⟩) * k0_pay18 (F := Ideal) p s s (ix2 r ⟨x.val, by omega⟩)) (fun x => hr _) ⟨j.val, h⟩).trans ?_
    refine Finset.sum_congr rfl fun d _ => ?_
    rw [hc]
    rfl
  · rw [dif_neg h]
    refine (seg_sum s hs (fun x => k0_pay18 (F := Ideal) p s s (ix2 r ⟨128 + x.val, by omega⟩) * k0_pay18 (F := Ideal) p s s (ix2 r ⟨128 + x.val, by omega⟩)) (fun x => hr _) ⟨j.val - 128, by omega⟩).trans ?_
    refine Finset.sum_congr rfl fun d _ => ?_
    have e : (⟨128 + ((j.val - 128) / 64 * 64 + d.val), by omega⟩ : Fin 256) = lane ⟨j.val / 64, by omega⟩ d := Fin.ext (by
      show 128 + ((j.val - 128) / 64 * 64 + d.val) = j.val / 64 * 64 + d.val
      omega)
    rw [← hc]
    exact congrArg (fun z => k0_pay18 (F := Ideal) p s s (ix2 r z) * k0_pay18 (F := Ideal) p s s (ix2 r z)) e

/-! ### The spatial weights -/

/-- The words that the body makes of its iotas. -/
abbrev v143 : IVec S128x256 32 := iota .tc S128x256 32 [0] iota_S128x256_d0_w32

/-- The position within a head of a column of a pair of heads. -/
def within (k : BitVec 32) : BitVec 32 :=
  Scalar.select
    (IntOp.andi
      (IntOp.xori (IntOp.cmpi .slt (IntOp.remsi .vector k (Scalar.select (Scalar.cmpi .eq 128#32 0#32) 1#32 128#32)) 0#32)
        (Scalar.cmpi .slt 128#32 0#32))
      (IntOp.cmpi .ne (IntOp.remsi .vector k (Scalar.select (Scalar.cmpi .eq 128#32 0#32) 1#32 128#32)) 0#32))
    (IntOp.addi (IntOp.remsi .vector k (Scalar.select (Scalar.cmpi .eq 128#32 0#32) 1#32 128#32)) 128#32)
    (IntOp.remsi .vector k (Scalar.select (Scalar.cmpi .eq 128#32 0#32) 1#32 128#32))

theorem within_low : ∀ x : Fin 128, within (BitVec.ofNat 32 x.val) = BitVec.ofNat 32 x.val := by decide +kernel

theorem within_high : ∀ x : Fin 128, within (BitVec.ofNat 32 (128 + x.val)) = BitVec.ofNat 32 x.val := by decide +kernel

theorem causal_word : ∀ t x : Fin 128, IntOp.cmpi .sge (BitVec.ofNat 32 t.val) (BitVec.ofNat 32 x.val) = BitVec.ofBool (decide (x.val ≤ t.val)) := by
  decide +kernel

theorem lane_word : ∀ j : Fin 128, IntOp.cmpi .slt (BitVec.ofNat 32 j.val) 64#32 = BitVec.ofBool (decide (j.val < 64)) := by decide +kernel

theorem select_bool {α : Type} (p : Prop) [Decidable p] (a b : α) : Scalar.select (BitVec.ofBool (decide p)) a b = if p then a else b := by
  by_cases h : p <;> simp [h, Scalar.select]

/-- Weights kept below the diagonal, as the kernel forms them from a pair of heads. -/
def Kept (m : FVec Ideal S128x256 .bf16) (w : Vec Ideal S1x128x256 .f32) : Prop :=
  (∀ t x : Fin 128, m (ix2 t ⟨x.val, by omega⟩) = if x.val ≤ t.val then w (ix3 0 t ⟨x.val, by omega⟩) else 0)
  ∧ ∀ t x : Fin 128, m (ix2 t ⟨128 + x.val, by omega⟩) = if x.val ≤ t.val then w (ix3 0 t ⟨128 + x.val, by omega⟩) else 0

/-- The mask of the spatial weights. -/
abbrev wmask : IVec S128x256 1 := k0_pay28 v143 128#32 k0_pay25 k0_pay26 k0_pay27 0#32

theorem wmask_apply (t : Fin 128) (x : Fin 256) : wmask (ix2 t x) = IntOp.cmpi .sge (BitVec.ofNat 32 t.val) (within (BitVec.ofNat 32 x.val)) := by
  unfold wmask within
  pointwise [k0_pay28, k0_pay27, k0_pay26, k0_pay25]

theorem wmask_low (t x : Fin 128) : wmask (ix2 t ⟨x.val, by omega⟩) = BitVec.ofBool (decide (x.val ≤ t.val)) :=
  (wmask_apply t _).trans ((congrArg (IntOp.cmpi .sge (BitVec.ofNat 32 t.val)) (within_low x)).trans (causal_word t x))

theorem wmask_high (t x : Fin 128) : wmask (ix2 t ⟨128 + x.val, by omega⟩) = BitVec.ofBool (decide (x.val ≤ t.val)) :=
  (wmask_apply t _).trans ((congrArg (IntOp.cmpi .sge (BitVec.ofNat 32 t.val)) (within_high x)).trans (causal_word t x))

/-- The weights of the first pair of heads, and of the second. -/
abbrev wm₀ (w : Vec Ideal S1x128x256 .f32) : FVec Ideal S128x256 .bf16 :=
  k0_pay29 (F := Ideal) v143 128#32 k0_pay25 k0_pay26 k0_pay27 0#32 w

abbrev wm₁ (w : Vec Ideal S1x128x256 .f32) : FVec Ideal S128x256 .bf16 :=
  k0_pay30 (F := Ideal) v143 128#32 k0_pay25 k0_pay26 k0_pay27 0#32 w

theorem wm₀_apply (w : Vec Ideal S1x128x256 .f32) (t : Fin 128) (x : Fin 256) : wm₀ w (ix2 t x) = Scalar.select (wmask (ix2 t x)) (w (ix3 0 t x)) (0 : EReal) := by
  unfold wm₀ wmask
  pointwise [k0_pay29]

theorem wm₁_apply (w : Vec Ideal S1x128x256 .f32) (t : Fin 128) (x : Fin 256) : wm₁ w (ix2 t x) = Scalar.select (wmask (ix2 t x)) (w (ix3 0 t x)) (0 : EReal) := by
  unfold wm₁ wmask
  pointwise [k0_pay30]

theorem kept₀ (w : Vec Ideal S1x128x256 .f32) : Kept (wm₀ w) w :=
  ⟨fun t x => by rw [wm₀_apply, wmask_low]; exact select_bool _ _ _, fun t x => by rw [wm₀_apply, wmask_high]; exact select_bool _ _ _⟩

theorem kept₁ (w : Vec Ideal S1x128x256 .f32) : Kept (wm₁ w) w :=
  ⟨fun t x => by rw [wm₁_apply, wmask_low]; exact select_bool _ _ _, fun t x => by rw [wm₁_apply, wmask_high]; exact select_bool _ _ _⟩

/-- One pair of heads: the two sums over a column that carries one head in its low and one in its high half. -/
theorem pair_mix (m : FVec Ideal S128x256 .bf16) (w : Vec Ideal S1x128x256 .f32) (hm : Kept m w) (v : Fin 128 → EReal) (t j : Fin 128) :
    (∑ x : Fin 128, (m (ix2 t ⟨x.val, by omega⟩) : EReal) * Scalar.select (IntOp.cmpi .slt (BitVec.ofNat 32 j.val) 64#32) (v x) (0 : EReal))
      + (∑ x : Fin 128, (m (ix2 t ⟨128 + x.val, by omega⟩) : EReal) * Scalar.select (IntOp.cmpi .slt (BitVec.ofNat 32 j.val) 64#32) (0 : EReal) (v x))
      = mixS (fun s => if j.val < 64 then w (ix3 0 t ⟨s.val, by omega⟩) else w (ix3 0 t ⟨128 + s.val, by omega⟩)) v t := by
  rw [lane_word, ← Finset.sum_add_distrib]
  refine Finset.sum_congr rfl fun x _ => ?_
  rw [select_bool, select_bool, hm.1, hm.2]
  by_cases hj : j.val < 64
  · simp only [if_pos hj, mul_zero, add_zero]
    exact mul_comm _ _
  · simp only [if_neg hj, mul_zero, zero_add]
    exact mul_comm _ _

/-- What one chunk of rows gets from the two pairs of heads, with its bias. -/
def chunk (v : Fin 128 → Fin 256 → EReal) (w₀ w₁ : Vec Ideal S1x128x256 .f32) (bs : Vec Ideal S128x256 .f32) (t : Fin 128) (j : Fin 256) : EReal :=
  mixS (fun s => if j.val < 128 then (if j.val < 64 then w₀ (ix3 0 t ⟨s.val, by omega⟩) else w₀ (ix3 0 t ⟨128 + s.val, by omega⟩))
    else (if j.val - 128 < 64 then w₁ (ix3 0 t ⟨s.val, by omega⟩) else w₁ (ix3 0 t ⟨128 + s.val, by omega⟩))) (fun s => v s j) t + bs (ix2 t j)

/-- The two pairs side by side are a chunk. -/
theorem chunk_eq (m₀ m₁ : FVec Ideal S128x256 .bf16) (w₀ w₁ : Vec Ideal S1x128x256 .f32) (h₀ : Kept m₀ w₀) (h₁ : Kept m₁ w₁)
    (v : Fin 128 → Fin 256 → EReal) (bs : Vec Ideal S128x256 .f32) (t : Fin 128) (j : Fin 256) :
    (if h : j.val < 128 then
        (∑ x : Fin 128, (m₀ (ix2 t ⟨x.val, by omega⟩) : EReal) * Scalar.select (IntOp.cmpi .slt (BitVec.ofNat 32 j.val) 64#32) (v x j) (0 : EReal))
          + (∑ x : Fin 128, (m₀ (ix2 t ⟨128 + x.val, by omega⟩) : EReal) * Scalar.select (IntOp.cmpi .slt (BitVec.ofNat 32 j.val) 64#32) (0 : EReal) (v x j))
      else
        (∑ x : Fin 128, (m₁ (ix2 t ⟨x.val, by omega⟩) : EReal) * Scalar.select (IntOp.cmpi .slt (BitVec.ofNat 32 (j.val - 128)) 64#32) (v x ⟨128 + (j.val - 128), by omega⟩) (0 : EReal))
          + (∑ x : Fin 128, (m₁ (ix2 t ⟨128 + x.val, by omega⟩) : EReal) * Scalar.select (IntOp.cmpi .slt (BitVec.ofNat 32 (j.val - 128)) 64#32) (0 : EReal) (v x ⟨128 + (j.val - 128), by omega⟩)))
      + bs (ix2 t j) = chunk v w₀ w₁ bs t j := by
  unfold chunk
  by_cases h : j.val < 128
  · rw [dif_pos h]
    refine congrArg (fun z : EReal => z + bs (ix2 t j)) ?_
    refine (pair_mix m₀ w₀ h₀ (fun x => v x j) t ⟨j.val, h⟩).trans ?_
    simp only [h, if_true]
  · rw [dif_neg h]
    have e : (⟨128 + (j.val - 128), by omega⟩ : Fin 256) = j := Fin.ext (by show 128 + (j.val - 128) = j.val; omega)
    rw [e]
    refine congrArg (fun z : EReal => z + bs (ix2 t j)) ?_
    refine (pair_mix m₁ w₁ h₁ (fun x => v x j) t ⟨j.val - 128, by omega⟩).trans ?_
    simp only [h, if_false]

theorem lane_mask (t j : Fin 128) : k0_pay24 (ix2 t j) = IntOp.cmpi .slt (BitVec.ofNat 32 j.val) 64#32 := by
  pointwise [k0_pay24]

theorem pay31_apply (v : FVec Ideal S512x256 .f32) (w₀ w₁ : Vec Ideal S1x128x256 .f32) (bs : Vec Ideal S128x256 .f32) (t : Fin 128) (j : Fin 256) :
    k0_pay31 (F := Ideal) v k0_pay24 v143 128#32 k0_pay25 k0_pay26 k0_pay27 0#32 w₀ w₁ bs (ix2 t j)
      = chunk (fun s j => v (ix2 ⟨s.val, by omega⟩ j)) w₀ w₁ bs t j := by
  refine Eq.trans ?_ (chunk_eq (wm₀ w₀) (wm₁ w₁) w₀ w₁ (kept₀ w₀) (kept₁ w₁) (fun s j => v (ix2 ⟨s.val, by omega⟩ j)) bs t j)
  pointwise [k0_pay31, k0_pay24]

theorem pay34_apply (v : FVec Ideal S512x256 .f32) (m₀ m₁ : FVec Ideal S128x256 .bf16) (w₀ w₁ : Vec Ideal S1x128x256 .f32) (h₀ : Kept m₀ w₀) (h₁ : Kept m₁ w₁)
    (bs : Vec Ideal S128x256 .f32) (t : Fin 128) (j : Fin 256) :
    k0_pay34 (F := Ideal) k0_pay24 m₀ m₁ (k0_pay32 v) (k0_pay33 v k0_pay24) bs (ix2 t j)
      = chunk (fun s j => v (ix2 ⟨128 + s.val, by omega⟩ j)) w₀ w₁ bs t j := by
  refine Eq.trans ?_ (chunk_eq m₀ m₁ w₀ w₁ h₀ h₁ (fun s j => v (ix2 ⟨128 + s.val, by omega⟩ j)) bs t j)
  pointwise [k0_pay34, k0_pay32, k0_pay33, k0_pay24]

theorem pay35_apply (v : FVec Ideal S512x256 .f32) (m₀ m₁ : FVec Ideal S128x256 .bf16) (w₀ w₁ : Vec Ideal S1x128x256 .f32) (h₀ : Kept m₀ w₀) (h₁ : Kept m₁ w₁)
    (bs : Vec Ideal S128x256 .f32) (t : Fin 128) (j : Fin 256) :
    k0_pay35 (F := Ideal) v k0_pay24 m₀ m₁ bs (ix2 t j)
      = chunk (fun s j => v (ix2 ⟨256 + s.val, by omega⟩ j)) w₀ w₁ bs t j := by
  refine Eq.trans ?_ (chunk_eq m₀ m₁ w₀ w₁ h₀ h₁ (fun s j => v (ix2 ⟨256 + s.val, by omega⟩ j)) bs t j)
  pointwise [k0_pay35, k0_pay24]

/-- The fourth chunk, which the kernel adds up in its last payload. -/
theorem last_chunk (v : FVec Ideal S512x256 .f32) (m₀ m₁ : FVec Ideal S128x256 .bf16) (w₀ w₁ : Vec Ideal S1x128x256 .f32) (h₀ : Kept m₀ w₀) (h₁ : Kept m₁ w₁)
    (bs : Vec Ideal S128x256 .f32) (t : Fin 128) (j : Fin 256) :
    addf (concatenate S128x256 1 [⟨S128x128, k0_pay37 (F := Ideal) v k0_pay24 m₀⟩,
        ⟨S128x128, matmul dot_S128x256_S256x128_S128x128_1_0_0_1_n_n none m₁ (k0_pay38 (F := Ideal) v k0_pay24) (constant S128x128 .f32 0x00000000#32)⟩]
        concatenates_S128x128_S128x128_S128x256_d1) bs (ix2 t j)
      = chunk (fun s j => v (ix2 ⟨384 + s.val, by omega⟩ j)) w₀ w₁ bs t j := by
  refine Eq.trans ?_ (chunk_eq m₀ m₁ w₀ w₁ h₀ h₁ (fun s j => v (ix2 ⟨384 + s.val, by omega⟩ j)) bs t j)
  pointwise [k0_pay37, k0_pay38, k0_pay36, k0_pay24]

/-- The gated block: the payload in terms of the four chunks. -/
theorem pay1_rows (p : FVec Ideal S512x768 .f32) (m₁ : FVec Ideal S128x256 .bf16) (q : FVec Ideal S128x128 .f32) (e : FVec Ideal S256x128 .bf16)
    (bs : Vec Ideal S128x256 .f32) (c₀ c₁ c₂ c₃ : FVec Ideal S128x256 .f32)
    (h : c₃ = addf (concatenate S128x256 1 [⟨S128x128, q⟩,
        ⟨S128x128, matmul dot_S128x256_S256x128_S128x128_1_0_0_1_n_n none m₁ e (constant S128x128 .f32 0x00000000#32)⟩]
        concatenates_S128x128_S128x128_S128x256_d1) bs) (r : Fin 512) (j : Fin 256) :
    k0_pay1 (F := Ideal) (k0_pay16 p) (k0_pay17 p) m₁ c₀ c₁ c₂ q e (constant S128x128 .f32 0x00000000#32) bs (ix3 0 r j)
      = silu (p (ix2 r ⟨512 + j.val, by omega⟩)) * (p (ix2 r ⟨j.val, by omega⟩) *
        (if h : r.val < 128 then c₀ (ix2 ⟨r.val, h⟩ j) else if h : r.val - 128 < 128 then c₁ (ix2 ⟨r.val - 128, h⟩ j)
          else if h : r.val - 128 - 128 < 128 then c₂ (ix2 ⟨r.val - 128 - 128, h⟩ j) else c₃ (ix2 ⟨r.val - 128 - 128 - 128, by omega⟩ j))) := by
  rw [← silu_sub, ← mul_assoc, h]
  pointwise [k0_pay1, k0_pay16, k0_pay17]

theorem chunk_congr {v v' : Fin 128 → Fin 256 → EReal} {w₀ w₁ : Vec Ideal S1x128x256 .f32} {bs : Vec Ideal S128x256 .f32} {t t' : Fin 128} {j : Fin 256}
    (hv : ∀ s, v s j = v' s j) (ht : t = t') : chunk v w₀ w₁ bs t j = chunk v' w₀ w₁ bs t' j := by
  subst ht
  have e : (fun s => v s j) = fun s => v' s j := funext hv
  unfold chunk
  rw [e]

/-- The gated block at one entry. -/
theorem pay1_apply (p : FVec Ideal S512x768 .f32) (v : FVec Ideal S512x256 .f32) (w₀ w₁ : Vec Ideal S1x128x256 .f32)
    (bs : Vec Ideal S128x256 .f32) (r : Fin 512) (j : Fin 256) :
    k0_pay1 (F := Ideal) (k0_pay16 p) (k0_pay17 p) (wm₁ w₁)
        (k0_pay31 (F := Ideal) v k0_pay24 v143 128#32 k0_pay25 k0_pay26 k0_pay27 0#32 w₀ w₁ bs)
        (k0_pay34 (F := Ideal) k0_pay24 (wm₀ w₀) (wm₁ w₁) (k0_pay32 v) (k0_pay33 v k0_pay24) bs)
        (k0_pay35 (F := Ideal) v k0_pay24 (wm₀ w₀) (wm₁ w₁) bs)
        (k0_pay37 v k0_pay24 (wm₀ w₀)) (k0_pay38 v k0_pay24) (constant S128x128 .f32 0x00000000#32) bs (ix3 0 r j)
      = silu (p (ix2 r ⟨512 + j.val, by omega⟩)) * (p (ix2 r ⟨j.val, by omega⟩) *
        chunk (fun s j => v (ix2 ⟨r.val / 128 * 128 + s.val, by omega⟩ j)) w₀ w₁ bs ⟨r.val % 128, by omega⟩ j) := by
  refine (pay1_rows p (wm₁ w₁) _ _ bs _ _ _ _ rfl r j).trans ?_
  refine congrArg (fun z : EReal => silu (p (ix2 r ⟨512 + j.val, by omega⟩)) * (p (ix2 r ⟨j.val, by omega⟩) * z)) ?_
  have key : ∀ (o : ℕ) (ho : o + 128 ≤ 512) (t : Fin 128), o = r.val / 128 * 128 → t.val = r.val % 128 →
      chunk (fun s j => v (ix2 ⟨o + s.val, by omega⟩ j)) w₀ w₁ bs t j
        = chunk (fun s j => v (ix2 ⟨r.val / 128 * 128 + s.val, by omega⟩ j)) w₀ w₁ bs ⟨r.val % 128, by omega⟩ j := fun o ho t h h' =>
    chunk_congr (fun s => congrArg (fun z => v (ix2 z j)) (Fin.ext (congrArg (· + s.val) h))) (Fin.ext h')
  by_cases a₀ : r.val < 128
  · rw [dif_pos a₀]
    refine (pay31_apply v w₀ w₁ bs ⟨r.val, a₀⟩ j).trans ((chunk_congr (fun s => congrArg (fun z => v (ix2 z j)) (Fin.ext (Nat.zero_add s.val).symm)) rfl).trans
      (key 0 (by omega) _ (by omega) (show r.val = r.val % 128 by omega)))
  · rw [dif_neg a₀]
    by_cases a₁ : r.val - 128 < 128
    · rw [dif_pos a₁]
      exact (pay34_apply v _ _ w₀ w₁ (kept₀ w₀) (kept₁ w₁) bs _ j).trans (key 128 (by omega) _ (by omega) (show r.val - 128 = r.val % 128 by omega))
    · rw [dif_neg a₁]
      by_cases a₂ : r.val - 128 - 128 < 128
      · rw [dif_pos a₂]
        exact (pay35_apply v _ _ w₀ w₁ (kept₀ w₀) (kept₁ w₁) bs _ j).trans (key 256 (by omega) _ (by omega) (show r.val - 128 - 128 = r.val % 128 by omega))
      · rw [dif_neg a₂]
        exact (last_chunk v _ _ w₀ w₁ (kept₀ w₀) (kept₁ w₁) bs _ j).trans (key 384 (by omega) _ (by omega) (show r.val - 128 - 128 - 128 = r.val % 128 by omega))

end Cert.Kernel2Ideal.Sgu
-- ==== Proof.SguRun.lean ====
/- What a grid point of the projection call leaves in its six output blocks and in the carried row. -/
module

public import Idealize.ShloMosaic.Lib.Pipeline.ValueKit
public import Idealize.ShloMosaic.Lib.Pipeline.ReadBack
public import proofs.«01_k».proof.Proof.SguBlock
public import proofs.«01_k».proof.Proof.Gen.Kernel2Ideal.Value

@[expose] public section

set_option maxRecDepth 16384
set_option maxHeartbeats 4000000

noncomputable section

namespace Cert.Kernel2Ideal.Sgu

open Idealize.ShloMosaic Idealize.ShloMosaic.Tactic Idealize.ShloMosaic.Pointwise Cert.Kernel2Ideal Cert.Kernel2Ideal.Gen

variable (m : (ℓ : Loc nD τ sig) → Buf (Elt Ideal) ℓ)

/-- The gated stream's columns of a block's projection. -/
abbrev pA (c : Dev nD) (t : Fin cfg0.N) : FVec Ideal S512x768 .f32 :=
  k0_pay4 (F := Ideal) (iblk m c 0 t) (iblk m c 1 t) (iblk m c 2 t) (View.ld (iblk m c 3 t) (Rect.unit ![0, 0] ![1024, 768] inb_S1024x3968_S1024x768_0_0))

/-- The shifted stream's columns. -/
abbrev pX (c : Dev nD) (t : Fin cfg0.N) : FVec Ideal S512x1280 .f32 :=
  k0_pay5 (F := Ideal) (iblk m c 0 t) (iblk m c 1 t) (iblk m c 2 t) (View.ld (iblk m c 3 t) (Rect.unit ![0, 768] ![1024, 1280] inb_S1024x3968_S1024x1280_0_768))

/-- The two gates' columns. -/
abbrev pG (c : Dev nD) (t : Fin cfg0.N) : FVec Ideal S512x768 .f32 :=
  k0_pay6 (F := Ideal) (iblk m c 0 t) (iblk m c 1 t) (iblk m c 2 t) (View.ld (iblk m c 3 t) (Rect.unit ![0, 2048] ![1024, 768] inb_S1024x3968_S1024x768_0_2048))

/-- The attention's columns. -/
abbrev pQ (c : Dev nD) (t : Fin cfg0.N) : FVec Ideal S512x1152 .f32 :=
  k0_pay7 (F := Ideal) (iblk m c 0 t) (iblk m c 1 t) (iblk m c 2 t) (View.ld (iblk m c 3 t) (Rect.unit ![0, 2816] ![1024, 1152] inb_S1024x3968_S1024x1152_0_2816))

/-- The normalized half. -/
abbrev vN (c : Dev nD) (t : Fin cfg0.N) : FVec Ideal S512x256 .f32 :=
  k0_pay23 (F := Ideal) (k0_pay18 (pA m c t) (iblk m c 9 t) (iblk m c 9 t)) (k0_pay19 (pA m c t) (iblk m c 9 t) (iblk m c 9 t))
    (k0_pay21 (pA m c t) (iblk m c 9 t) (iblk m c 9 t)) (k0_pay22 (pA m c t) (iblk m c 9 t) (iblk m c 9 t)) (iblk m c 9 t) (iblk m c 9 t) (iblk m c 5 t) (iblk m c 6 t)

/-- The spatial weights of a pair of heads. -/
abbrev sw₀ (c : Dev nD) (t : Fin cfg0.N) : Vec Ideal S1x128x256 .f32 :=
  View.ld (iblk m c 7 t) (Rect.unit ![0, 0, 0] ![1, 128, 256] inb_S2x128x256_S1x128x256_0_0_0)

abbrev sw₁ (c : Dev nD) (t : Fin cfg0.N) : Vec Ideal S1x128x256 .f32 :=
  View.ld (iblk m c 7 t) (Rect.unit ![1, 0, 0] ![1, 128, 256] inb_S2x128x256_S1x128x256_1_0_0)

/-- The row before the block's first. -/
def before (c : Dev nD) (t : Fin cfg0.N) : Vec Ideal S1x1280 .f32 := fun i =>
  if t.val % 16 = 0 then (0 : EReal) else (outsAt0 m c (t.val - 1) (Nat.lt_of_le_of_lt (Nat.sub_le _ _) t.isLt)).2.2.2.2.2.2 (ix2 7 (i 1))

theorem yaB (c : Dev nD) (t : Fin cfg0.N) :
    (outsAt0 m c t.val t.isLt).1 = k0_pay1 (F := Ideal) (k0_pay16 (pA m c t)) (k0_pay17 (pA m c t)) (wm₁ (sw₁ m c t))
        (k0_pay31 (F := Ideal) (vN m c t) k0_pay24 v143 128#32 k0_pay25 k0_pay26 k0_pay27 0#32 (sw₀ m c t) (sw₁ m c t) (iblk m c 8 t))
        (k0_pay34 (F := Ideal) k0_pay24 (wm₀ (sw₀ m c t)) (wm₁ (sw₁ m c t)) (k0_pay32 (vN m c t)) (k0_pay33 (vN m c t) k0_pay24) (iblk m c 8 t))
        (k0_pay35 (F := Ideal) (vN m c t) k0_pay24 (wm₀ (sw₀ m c t)) (wm₁ (sw₁ m c t)) (iblk m c 8 t))
        (k0_pay37 (vN m c t) k0_pay24 (wm₀ (sw₀ m c t))) (k0_pay38 (vN m c t) k0_pay24) (constant S128x128 .f32 0x00000000#32) (iblk m c 8 t) := by
  by_cases h0 : t.val % 16 = 0
  · rw [outsAt0_A m c t h0]
    frame_open
    frame_out
    rfl
  · rw [outsAt0_B m c t h0]
    frame_open
    frame_out
    rfl

theorem gbB (c : Dev nD) (t : Fin cfg0.N) :
    (outsAt0 m c t.val t.isLt).2.2.1 = k0_pay11 (F := Ideal) (pG m c t) := by
  by_cases h0 : t.val % 16 = 0
  · rw [outsAt0_A m c t h0]
    frame_open
    frame_out
    rfl
  · rw [outsAt0_B m c t h0]
    frame_open
    frame_out
    rfl

theorem gcB (c : Dev nD) (t : Fin cfg0.N) :
    (outsAt0 m c t.val t.isLt).2.2.2.1 = k0_pay13 (F := Ideal) (k0_pay12 (pG m c t)) := by
  by_cases h0 : t.val % 16 = 0
  · rw [outsAt0_A m c t h0]
    frame_open
    frame_out
    rfl
  · rw [outsAt0_B m c t h0]
    frame_open
    frame_out
    rfl

theorem qB (c : Dev nD) (t : Fin cfg0.N) :
    (outsAt0 m c t.val t.isLt).2.2.2.2.1 = k0_pay14 (F := Ideal) (pQ m c t) := by
  by_cases h0 : t.val % 16 = 0
  · rw [outsAt0_A m c t h0]
    frame_open
    frame_out
    rfl
  · rw [outsAt0_B m c t h0]
    frame_open
    frame_out
    rfl

theorem kvB (c : Dev nD) (t : Fin cfg0.N) :
    (outsAt0 m c t.val t.isLt).2.2.2.2.2.1 = k0_pay15 (F := Ideal) (pQ m c t) := by
  by_cases h0 : t.val % 16 = 0
  · rw [outsAt0_A m c t h0]
    frame_open
    frame_out
    rfl
  · rw [outsAt0_B m c t h0]
    frame_open
    frame_out
    rfl

theorem scB (c : Dev nD) (t : Fin cfg0.N) :
    (outsAt0 m c t.val t.isLt).2.2.2.2.2.2 = k0_pay9 (F := Ideal) (pX m c t) := by
  by_cases h0 : t.val % 16 = 0
  · rw [outsAt0_A m c t h0]
    frame_open
    frame_out
    rfl
  · rw [outsAt0_B m c t h0]
    frame_open
    frame_out
    rfl

theorem xsB (c : Dev nD) (t : Fin cfg0.N) :
    (outsAt0 m c t.val t.isLt).2.1 = k0_pay10 (F := Ideal) (pX m c t) k0_pay8 (before m c t) 1#32 (iblk m c 4 t) := by
  by_cases h0 : t.val % 16 = 0
  · rw [outsAt0_A m c t h0]
    frame_open
    frame_out
    refine congrArg (fun z => k0_pay10 (F := Ideal) (pX m c t) k0_pay8 z 1#32 (iblk m c 4 t)) ?_
    refine (View.readCov_eq_canon' _ _ _).trans (funext fun j => ?_)
    refine Eq.trans ?_ (if_pos h0).symm
    rw [View.canon_cons_unit_lit]
    · exact pay2_apply _
    · decide
  · rw [outsAt0_B m c t h0]
    frame_open
    frame_out
    simp only [read_unread_whole]
    refine congrArg (fun z => k0_pay10 (F := Ideal) (pX m c t) k0_pay8 z 1#32 (iblk m c 4 t)) ?_
    funext j
    refine Eq.trans ?_ (if_neg h0).symm
    refine congrArg (outsAt0 m c (t.val - 1) (Nat.lt_of_le_of_lt (Nat.sub_le _ _) t.isLt)).2.2.2.2.2.2 ?_
    have hj : (j 0).val < 1 := (j 0).isLt
    funext a
    fin_cases a
    · exact Fin.ext (by show 7 + 1 * (j 0).val = 7; omega)
    · exact Fin.ext (by show 0 + 1 * (j 1).val = (j 1).val; omega)

end Cert.Kernel2Ideal.Sgu
-- ==== Proof.SguPoints.lean ====
/- What each input block of the projection call reads: its place in the argument that its window cuts it from. -/
module

public import proofs.«01_k».proof.Proof.SguBlock
public import proofs.«01_k».proof.Proof.Gen.Kernel2Ideal.Value

@[expose] public section

set_option maxRecDepth 16384
set_option maxHeartbeats 4000000

noncomputable section

namespace Cert.Kernel2Ideal.Sgu

open Idealize.ShloMosaic Idealize.ShloMosaic.TcCoe Idealize.ShloMosaic.Tactic Idealize.ShloMosaic.Pointwise Cert.Kernel2Ideal Cert.Kernel2Ideal.Gen Cert.Sgu

variable (m : (ℓ : Loc nD τ sig) → Buf (Elt Ideal) ℓ)

/-- The call's arguments, as launched. -/
def karr (c : Dev nD) : Arr where
  x := m ((c : Thread nD τ).loc main_arg0)
  sc := m ((c : Thread nD τ).loc main_arg1)
  sh := m ((c : Thread nD τ).loc main_arg2)
  w := m ((c : Thread nD τ).loc main_arg3)
  mu := m ((c : Thread nD τ).loc main_arg4)
  g := m ((c : Thread nD τ).loc main_arg5)
  b := m ((c : Thread nD τ).loc main_arg6)
  ws := m ((c : Thread nD τ).loc main_arg7)
  bs := m ((c : Thread nD τ).loc main_arg8)

theorem point_lt (t : Fin cfg0.N) : t.val < 128 := lt_of_lt_of_eq t.isLt N_0

/-- The batch entry of a grid point. -/
def bat (t : Fin cfg0.N) : Fin 8 := ⟨t.val / 16, by have := point_lt t; omega⟩

/-- The frame of row `r` of a grid point's block. -/
def row (t : Fin cfg0.N) (r : Fin 512) : Fin 8192 := ⟨t.val % 16 * 512 + r.val, by omega⟩

theorem idx : ∀ t : Fin cfg0.N, win0_0.index t = ![t.val / 16, t.val % 16, 0] ∧ win0_1.index t = ![t.val / 16, 0, 0] ∧ win0_2.index t = ![t.val / 16, 0, 0]
    ∧ win0_3.index t = ![0, 0] ∧ win0_4.index t = ![0, 0] ∧ win0_5.index t = ![0, 0] ∧ win0_6.index t = ![0, 0] ∧ win0_7.index t = ![0, 0, 0]
    ∧ win0_8.index t = ![0, 0] ∧ win0_9.index t = ![0, 0] := (by decide +kernel : ∀ t : Fin grid0.N, _)

theorem idx_out : ∀ t : Fin cfg0.N, win0_10.index t = ![t.val / 16, t.val % 16, 0] ∧ win0_11.index t = ![t.val / 16, t.val % 16, 0]
    ∧ win0_12.index t = ![t.val / 16, t.val % 16, 0] ∧ win0_13.index t = ![t.val / 16, t.val % 16, 0] ∧ win0_14.index t = ![t.val / 16, t.val % 16, 0]
    ∧ win0_15.index t = ![t.val / 16, t.val % 16, 0] := (by decide +kernel : ∀ t : Fin grid0.N, _)

/-- The contents when the first stretch of the host program has run. -/
abbrev V₀ (c : Dev nD) : Valuation τ sig (Elt Ideal) := StableHlo.after hostOps0 fun b => m (c, b)

theorem after_two (l l' : List (HloOp τ sig (Elt Ideal))) : ∀ W : Valuation τ sig (Elt Ideal), StableHlo.after (l ++ l') W = StableHlo.after l' (StableHlo.after l W) := by
  induction l with
  | nil => exact fun _ => rfl
  | cons op l ih => exact fun W => ih (op.result W)

/-- The host program before the call is its three stretches. -/
theorem V_eq (c : Dev nD) (b : Ref sig .tc) :
    V m c b = StableHlo.after hostOps0_2 (StableHlo.after hostOps0_1 (V₀ m c)) (Proc.devRef .tc b) := by
  have e : List.flatten [hostOps0 (F := Ideal), hostOps0_1, hostOps0_2] = hostOps0 ++ (hostOps0_1 ++ hostOps0_2) := by
    rw [List.flatten_cons, List.flatten_cons, List.flatten_cons, List.flatten_nil, List.append_nil]
  show StableHlo.after (List.flatten [hostOps0, hostOps0_1, hostOps0_2]) (fun b => m (c, b)) (Proc.devRef .tc b) = _
  rw [e, after_two, after_two]

/-- A buffer that only the first stretch writes. -/
theorem V_first (c : Dev nD) (b : Ref sig .tc) (h₁ : (hostOps0_1 (F := Ideal)).Forall fun op => Proc.devRef .tc b ∉ op.writes)
    (h₂ : (hostOps0_2 (F := Ideal)).Forall fun op => Proc.devRef .tc b ∉ op.writes) : V m c b = V₀ m c (Proc.devRef .tc b) := by
  rw [V_eq, StableHlo.after_of_forall_not_mem hostOps0_2 _ (List.forall_iff_forall_mem.mp h₂)]
  exact StableHlo.after_of_forall_not_mem hostOps0_1 (V₀ m c) (List.forall_iff_forall_mem.mp h₁)

theorem head_word (W : Valuation τ sig (Elt Ideal)) (h₀ : W (Proc.devRef .tc main_v26) = iotaInDim S128 32 0) (h₁ : W (Proc.devRef .tc main_c) = constantI S_ 32 64#32)
    (x : Fin 128) : StableHlo.after hostOps0_1 W (Proc.devRef .tc main_v27) (ix1 x) = BitVec.ofNat 32 (x.val / 64) := by
  entry_read
  rw [h₀, h₁]
  simp only [StableHlo.TRef.ofBuf_toBuf]
  simp only [StableHlo.TRef.ofBuf, StableHlo.TRef.toBuf, cast_eq]
  pointwise
  revert x
  decide +kernel

theorem same_head : ∀ a b : Fin 128, IntOp.cmpi .eq (BitVec.ofNat 32 (a.val / 64)) (BitVec.ofNat 32 (b.val / 64)) = BitVec.ofBool (decide (a.val / 64 = b.val / 64)) := by
  decide +kernel

theorem flag_value (p : Prop) [Decidable p] : (FloatOps.uitofp .bf16 (BitVec.ofBool (decide p)) : Ideal .bf16) = if p then (1 : EReal) else 0 := by
  by_cases h : p
  · rw [if_pos h, decide_eq_true h]
    show (((1#1 : BitVec 1).toNat : ℝ) : EReal) = 1
    norm_num
  · rw [if_neg h, decide_eq_false h]
    show (((0#1 : BitVec 1).toNat : ℝ) : EReal) = 0
    norm_num

theorem seg_entry (W : Valuation τ sig (Elt Ideal)) (hW : ∀ x : Fin 128, W (Proc.devRef .tc main_v27) (ix1 x) = BitVec.ofNat 32 (x.val / 64)) (k : Fin 256) (j : Fin 128) :
    StableHlo.after hostOps0_2 W (Proc.devRef .tc main_v34) (ix2 k j) = if k.val % 128 / 64 = j.val / 64 then (1 : EReal) else 0 := by
  entry_read
  pointwise
  by_cases h : k.val < 128
  · rw [dif_pos h, hW, hW, same_head ⟨k.val, h⟩ j, flag_value]
    exact if_congr (by show k.val / 64 = _ ↔ k.val % 128 / 64 = _; omega) rfl rfl
  · rw [dif_neg h, hW, hW, same_head ⟨k.val - 128, by omega⟩ j, flag_value]
    exact if_congr (by show (k.val - 128) / 64 = _ ↔ k.val % 128 / 64 = _; omega) rfl rfl

theorem rd0 (c : Dev nD) (t : Fin cfg0.N) (r : Fin 512) (l : Fin 1024) :
    iblk m c 0 t (ix3 0 r l) = (karr m c).x (ix3 (bat t) (row t r) l) := by
  have hb := (idx t).1
  show _ = m ((c : Thread nD τ).loc main_arg0) (ix3 (bat t) (row t r) l)
  rw [← V_main_arg0 m c]
  blk_ext [iblk, hb, bat, row]

theorem rd1 (c : Dev nD) (t : Fin cfg0.N) (l : Fin 1024) :
    iblk m c 1 t (ix3 0 0 l) = (1 : EReal) + (karr m c).sc (ix3 (bat t) 0 l) := by
  have hb := (idx t).2.1
  have e : iblk m c 1 t (ix3 0 0 l) = V m c main_v1 (ix3 (bat t) 0 l) := by
    blk_ext [iblk, hb, bat]
  rw [e, V_first m c main_v1 (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide)) (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide))]
  unfold V₀
  entry_read
  pointwise
  rfl

theorem rd2 (c : Dev nD) (t : Fin cfg0.N) (l : Fin 1024) :
    iblk m c 2 t (ix3 0 0 l) = (karr m c).sh (ix3 (bat t) 0 l) := by
  have hb := (idx t).2.2.1
  show _ = m ((c : Thread nD τ).loc main_arg2) (ix3 (bat t) 0 l)
  rw [← V_main_arg2 m c]
  blk_ext [iblk, hb, bat]

/-- The columns of the weights in the order of the call. -/
theorem rd3 (c : Dev nD) (t : Fin cfg0.N) (d : Fin 1024) (j : Fin 3968) :
    iblk m c 3 t (ix2 d j) = if h : j.val < 2432 then (karr m c).w (ix2 d ⟨j.val, by omega⟩)
      else if h' : j.val - 2432 < 384 then (karr m c).w (ix2 d ⟨3584 + (j.val - 2432), by omega⟩)
      else (karr m c).w (ix2 d ⟨2432 + (j.val - 2432 - 384), by omega⟩) := by
  have hb := (idx t).2.2.2.1
  have e : iblk m c 3 t (ix2 d j) = V m c main_v22 (ix2 d j) := by
    blk_ext [iblk, hb]
  rw [e, V_first m c main_v22 (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide)) (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide))]
  unfold V₀
  simp only [hostOps0, StableHlo.after_cons, StableHlo.after_nil]
  rw [StableHlo.nullary_result_ne _ _ _ _ (by decide), StableHlo.nullary_result_ne _ _ _ _ (by decide), StableHlo.reshape_result_ne _ _ _ _ _ _ _ (by decide),
    StableHlo.reshape_result_ne _ _ _ _ _ _ _ (by decide), StableHlo.reshape_result_ne _ _ _ _ _ _ _ (by decide), StableHlo.unary_result, StableHlo.nary_result]
  pointwise
  after_results_loop
  pointwise
  rfl

theorem rd4 (c : Dev nD) (t : Fin cfg0.N) (j : Fin 1280) :
    iblk m c 4 t (ix2 0 j) = (karr m c).mu (ix1 j) := by
  have hb := (idx t).2.2.2.2.1
  have e : iblk m c 4 t (ix2 0 j) = V m c main_v23 (ix2 0 j) := by
    blk_ext [iblk, hb]
  rw [e, V_first m c main_v23 (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide)) (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide))]
  unfold V₀
  entry_read
  pointwise
  rfl

theorem rd5 (c : Dev nD) (t : Fin cfg0.N) (j : Fin 256) :
    iblk m c 5 t (ix2 0 j) = (karr m c).g (ix1 j) := by
  have hb := (idx t).2.2.2.2.2.1
  have e : iblk m c 5 t (ix2 0 j) = V m c main_v24 (ix2 0 j) := by
    blk_ext [iblk, hb]
  rw [e, V_first m c main_v24 (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide)) (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide))]
  unfold V₀
  entry_read
  pointwise
  rfl

theorem rd6 (c : Dev nD) (t : Fin cfg0.N) (j : Fin 256) :
    iblk m c 6 t (ix2 0 j) = (karr m c).b (ix1 j) := by
  have hb := (idx t).2.2.2.2.2.2.1
  have e : iblk m c 6 t (ix2 0 j) = V m c main_v25 (ix2 0 j) := by
    blk_ext [iblk, hb]
  rw [e, V_first m c main_v25 (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide)) (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide))]
  unfold V₀
  entry_read
  pointwise
  rfl

/-- The spatial weights of a pair of heads, side by side. -/
theorem rd7 (c : Dev nD) (t : Fin cfg0.N) (p : Fin 2) (a : Fin 128) (k : Fin 256) :
    iblk m c 7 t (ix3 p a k) = (karr m c).ws (ix3 ⟨2 * p.val + k.val / 128, by omega⟩ a ⟨k.val % 128, Nat.mod_lt _ (by omega)⟩) := by
  have hb := (idx t).2.2.2.2.2.2.2.1
  have e : iblk m c 7 t (ix3 p a k) = V m c main_v14 (ix3 p a k) := by
    blk_ext [iblk, hb]
  rw [e, V_first m c main_v14 (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide)) (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide))]
  unfold V₀
  entry_read
  pointwise
  after_results_loop
  pointwise
  show _ = m ((c : Thread nD τ).loc main_arg7) (ix3 ⟨2 * p.val + k.val / 128, by omega⟩ a ⟨k.val % 128, Nat.mod_lt _ (by omega)⟩)
  have hk := k.isLt
  by_cases hp : p.val < 1
  · rw [dif_pos hp]
    by_cases h : k.val < 128
    · rw [dif_pos h]
      exact congrArg (m ((c : Thread nD τ).loc main_arg7)) (congrArg₂ (fun h k => ix3 h a k) (Fin.ext (by show 0 = 2 * p.val + k.val / 128; omega)) (Fin.ext (by show k.val = k.val % 128; omega)))
    · rw [dif_neg h]
      exact congrArg (m ((c : Thread nD τ).loc main_arg7)) (congrArg₂ (fun h k => ix3 h a k) (Fin.ext (by show 1 = 2 * p.val + k.val / 128; omega)) (Fin.ext (by show k.val - 128 = k.val % 128; omega)))
  · rw [dif_neg hp]
    by_cases h : k.val < 128
    · rw [dif_pos h]
      exact congrArg (m ((c : Thread nD τ).loc main_arg7)) (congrArg₂ (fun h k => ix3 h a k) (Fin.ext (by show 2 = 2 * p.val + k.val / 128; omega)) (Fin.ext (by show k.val = k.val % 128; omega)))
    · rw [dif_neg h]
      exact congrArg (m ((c : Thread nD τ).loc main_arg7)) (congrArg₂ (fun h k => ix3 h a k) (Fin.ext (by show 3 = 2 * p.val + k.val / 128; omega)) (Fin.ext (by show k.val - 128 = k.val % 128; omega)))

/-- The spatial bias, repeated over a head's lanes. -/
theorem rd8 (c : Dev nD) (t : Fin cfg0.N) (a : Fin 128) (j : Fin 256) :
    iblk m c 8 t (ix2 a j) = (karr m c).bs (ix2 ⟨j.val / 64, by omega⟩ a) := by
  have hb := (idx t).2.2.2.2.2.2.2.2.1
  have e : iblk m c 8 t (ix2 a j) = V m c main_v17 (ix2 a j) := by
    blk_ext [iblk, hb]
  rw [e, V_first m c main_v17 (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide)) (by
    simp only [hostOps0_1, hostOps0_2, List.Forall, StableHlo.nullary_writes, StableHlo.unary_writes, StableHlo.binary_writes, StableHlo.ternary_writes, Finset.mem_singleton]
    repeat' apply And.intro
    all_goals exact StableHlo.devRef_ne_of_ne (by decide))]
  unfold V₀
  entry_read
  pointwise
  rfl

/-- The call's mask of heads. -/
theorem rd9 (c : Dev nD) (t : Fin cfg0.N) : IsSeg (iblk m c 9 t) := fun k j => by
  have hb := (idx t).2.2.2.2.2.2.2.2.2
  have e : iblk m c 9 t (ix2 k j) = V m c main_v34 (ix2 k j) := by
    blk_ext [iblk, hb]
  rw [e, V_eq]
  refine seg_entry _ (head_word (V₀ m c) ?_ ?_) k j
  · unfold V₀
    entry_read
    rfl
  · unfold V₀
    entry_read
    rfl

end Cert.Kernel2Ideal.Sgu
-- ==== Proof.SguArray.lean ====
/- The projection call's six arrays after the run: every grid point's blocks are its part of the layer's intermediate arrays. -/
module

public import proofs.«01_k».proof.Proof.SguRun
public import proofs.«01_k».proof.Proof.SguPoints

@[expose] public section

set_option maxRecDepth 16384
set_option maxHeartbeats 1000000

noncomputable section

namespace Cert.Kernel2Ideal.Sgu

open Idealize.ShloMosaic Idealize.ShloMosaic.TcCoe Idealize.ShloMosaic.Tactic Idealize.ShloMosaic.Pointwise Cert.Kernel2Ideal Cert.Kernel2Ideal.Gen Cert.Sgu

variable (m : (ℓ : Loc nD τ sig) → Buf (Elt Ideal) ℓ)

/-- A block's row, modulated. -/
theorem hrow_eq (c : Dev nD) (t : Fin cfg0.N) (r : Fin 512) (d : Fin 1024) :
    hrow (iblk m c 0 t) (iblk m c 1 t) (iblk m c 2 t) r d = mrow (karr m c) (bat t) (row t r) d := by
  unfold hrow mrow
  exact congrArg₂ (fun a b : EReal => a + b) (congrArg₂ (fun a b : EReal => a * b) (rd0 m c t r d) (rd1 m c t d)) (rd2 m c t d)

/-- Some columns of the weights' block. -/
theorem ld_w (c : Dev nD) (t : Fin cfg0.N) (o n : ℕ) (h : ∀ a : Fin 2, (![0, o] : Fin 2 → ℕ) a + (![1024, n] : Fin 2 → ℕ) a ≤ S1024x3968.size a)
    (d : Fin 1024) (j : Fin n) (ho : o + j.val < 3968) :
    View.ld (iblk m c 3 t) (Rect.unit (s := S1024x3968) ![0, o] ![1024, n] h) (ix2 d j) = iblk m c 3 t (ix2 d ⟨o + j.val, ho⟩) := by
  refine congrArg (iblk m c 3 t) (funext fun a => ?_)
  fin_cases a
  · exact Fin.ext (by show 0 + 1 * d.val = d.val; omega)
  · exact Fin.ext (by show o + 1 * j.val = o + j.val; omega)

theorem pA_eq (c : Dev nD) (t : Fin cfg0.N) (r : Fin 512) (j : Fin 768) :
    pA m c t (ix2 r j) = proj (karr m c) (bat t) (row t r) ⟨j.val, by omega⟩ := by
  refine (pay4_apply _ _ _ _ r j).trans (Finset.sum_congr rfl fun d _ => congrArg₂ (fun a b : EReal => a * b) (hrow_eq m c t r d) ?_)
  refine (ld_w m c t 0 768 _ d j (by omega)).trans ((rd3 m c t d _).trans ((dif_pos (by show 0 + j.val < 2432; omega)).trans ?_))
  exact congrArg (karr m c).w (congrArg (ix2 d) (Fin.ext (by show 0 + j.val = j.val; omega)))

theorem pX_eq (c : Dev nD) (t : Fin cfg0.N) (r : Fin 512) (j : Fin 1280) :
    pX m c t (ix2 r j) = proj (karr m c) (bat t) (row t r) ⟨768 + j.val, by omega⟩ := by
  refine (pay5_apply _ _ _ _ r j).trans (Finset.sum_congr rfl fun d _ => congrArg₂ (fun a b : EReal => a * b) (hrow_eq m c t r d) ?_)
  exact (ld_w m c t 768 1280 _ d j (by omega)).trans ((rd3 m c t d _).trans (dif_pos (by show 768 + j.val < 2432; omega)))

theorem pG_lo (c : Dev nD) (t : Fin cfg0.N) (r : Fin 512) (j : Fin 384) :
    pG m c t (ix2 r ⟨j.val, by omega⟩) = proj (karr m c) (bat t) (row t r) ⟨2048 + j.val, by omega⟩ := by
  refine (pay6_apply _ _ _ _ r _).trans (Finset.sum_congr rfl fun d _ => congrArg₂ (fun a b : EReal => a * b) (hrow_eq m c t r d) ?_)
  exact (ld_w m c t 2048 768 _ d ⟨j.val, by omega⟩ (by show 2048 + j.val < 3968; omega)).trans ((rd3 m c t d _).trans (dif_pos (by show 2048 + j.val < 2432; omega)))

theorem pG_hi (c : Dev nD) (t : Fin cfg0.N) (r : Fin 512) (j : Fin 384) :
    pG m c t (ix2 r ⟨384 + j.val, by omega⟩) = proj (karr m c) (bat t) (row t r) ⟨3584 + j.val, by omega⟩ := by
  refine (pay6_apply _ _ _ _ r _).trans (Finset.sum_congr rfl fun d _ => congrArg₂ (fun a b : EReal => a * b) (hrow_eq m c t r d) ?_)
  refine (ld_w m c t 2048 768 _ d ⟨384 + j.val, by omega⟩ (by show 2048 + (384 + j.val) < 3968; omega)).trans ((rd3 m c t d _).trans
    ((dif_neg (by show ¬2048 + (384 + j.val) < 2432; omega)).trans ((dif_pos (by show 2048 + (384 + j.val) - 2432 < 384; omega)).trans ?_)))
  exact congrArg (karr m c).w (congrArg (ix2 d) (Fin.ext (by show 3584 + (2048 + (384 + j.val) - 2432) = 3584 + j.val; omega)))

theorem pQ_eq (c : Dev nD) (t : Fin cfg0.N) (r : Fin 512) (j : Fin 1152) :
    pQ m c t (ix2 r j) = proj (karr m c) (bat t) (row t r) ⟨2432 + j.val, by omega⟩ := by
  refine (pay7_apply _ _ _ _ r j).trans (Finset.sum_congr rfl fun d _ => congrArg₂ (fun a b : EReal => a * b) (hrow_eq m c t r d) ?_)
  refine (ld_w m c t 2816 1152 _ d j (by omega)).trans ((rd3 m c t d _).trans
    ((dif_neg (by show ¬2816 + j.val < 2432; omega)).trans ((dif_neg (by show ¬2816 + j.val - 2432 < 384; omega)).trans ?_)))
  exact congrArg (karr m c).w (congrArg (ix2 d) (Fin.ext (by show 2432 + (2816 + j.val - 2432 - 384) = 2432 + j.val; omega)))

/-- The gates, and the attention's operands. -/
theorem gb_eq (c : Dev nD) (t : Fin cfg0.N) (r : Fin 512) (j : Fin 384) :
    (outsAt0 m c t.val t.isLt).2.2.1 (ix3 0 r j) = gb (karr m c) (ix3 (bat t) (row t r) j) :=
  (congrFun (gbB m c t) _).trans ((pay11_apply _ r j).trans (congrArg silu (pG_lo m c t r j)))

theorem gc_eq (c : Dev nD) (t : Fin cfg0.N) (r : Fin 512) (j : Fin 384) :
    (outsAt0 m c t.val t.isLt).2.2.2.1 (ix3 0 r j) = gc (karr m c) (ix3 (bat t) (row t r) j) :=
  (congrFun (gcB m c t) _).trans ((pay13_apply _ r j).trans (congrArg silu (pG_hi m c t r j)))

theorem q_eq (c : Dev nD) (t : Fin cfg0.N) (r : Fin 512) (j : Fin 384) :
    (outsAt0 m c t.val t.isLt).2.2.2.2.1 (ix3 0 r j) = qc (karr m c) (ix3 (bat t) (row t r) j) :=
  (congrFun (qB m c t) _).trans ((pay14_apply _ r j).trans (pQ_eq m c t r ⟨j.val, by omega⟩))

theorem kv_eq (c : Dev nD) (t : Fin cfg0.N) (r : Fin 512) (j : Fin 768) :
    (outsAt0 m c t.val t.isLt).2.2.2.2.2.1 (ix3 0 r j) = kvc (karr m c) (ix3 (bat t) (row t r) j) := by
  refine (congrFun (kvB m c t) _).trans ((pay15_apply _ r j).trans ((pQ_eq m c t r ⟨384 + j.val, by omega⟩).trans ?_))
  exact congrArg (proj (karr m c) (bat t) (row t r)) (Fin.ext (by show 2432 + (384 + j.val) = 2816 + j.val; omega))

/-- The row before a block's first is the frame before, or zero at a sequence's start. -/
theorem before_eq (c : Dev nD) (t : Fin cfg0.N) (j : Fin 1280) :
    before m c t (ix2 0 j) = prev (karr m c) (bat t) (row t 0) ⟨768 + j.val, by omega⟩ := by
  unfold prev
  by_cases h0 : t.val % 16 = 0
  · exact (if_pos h0).trans (if_pos (by show t.val % 16 * 512 + 0 = 0; omega)).symm
  · refine Eq.trans (if_neg h0) (Eq.trans ?_ (if_neg (by show ¬t.val % 16 * 512 + 0 = 0; omega)).symm)
    have hp : t.val - 1 < cfg0.N := Nat.lt_of_le_of_lt (Nat.sub_le _ _) t.isLt
    refine (congrFun (scB m c ⟨t.val - 1, hp⟩) (ix2 7 j)).trans ((pay9_apply _ 7 j).trans ((pX_eq m c ⟨t.val - 1, hp⟩ _ j).trans ?_))
    exact congrArg₂ (fun b T => proj (karr m c) b T ⟨768 + j.val, by omega⟩) (Fin.ext (by show (t.val - 1) / 16 = t.val / 16; omega))
      (Fin.ext (by show (t.val - 1) % 16 * 512 + (504 + 7) = t.val % 16 * 512 + 0 - 1; omega))

theorem xs_eq (c : Dev nD) (t : Fin cfg0.N) (r : Fin 512) (j : Fin 1280) :
    (outsAt0 m c t.val t.isLt).2.1 (ix3 0 r j) = xs (karr m c) (ix3 (bat t) (row t r) j) := by
  refine (congrFun (xsB m c t) _).trans ((pay10_apply _ _ _ r j).trans ?_)
  have hp : (if r.val = 0 then before m c t (ix2 0 j) else pX m c t (ix2 ⟨r.val - 1, by omega⟩ j))
      = prev (karr m c) (bat t) (row t r) ⟨768 + j.val, by omega⟩ := by
    by_cases hr : r.val = 0
    · obtain rfl : r = 0 := Fin.ext hr
      exact (if_pos rfl).trans (before_eq m c t j)
    · refine (if_neg hr).trans ((pX_eq m c t _ j).trans (Eq.trans ?_ (if_neg (by show ¬t.val % 16 * 512 + r.val = 0; omega)).symm))
      exact congrArg (fun T => proj (karr m c) (bat t) T ⟨768 + j.val, by omega⟩) (Fin.ext (by show t.val % 16 * 512 + (r.val - 1) = t.val % 16 * 512 + r.val - 1; omega))
  rw [hp]
  have e := pX_eq m c t r j
  exact congrArg₂ (fun a b : EReal => a + b) e (congrArg₂ (fun a b : EReal => a * b) (congrArg (fun a : EReal => prev (karr m c) (bat t) (row t r) ⟨768 + j.val, by omega⟩ - a) e) (rd4 m c t j))

/-- The normalized half of a row. -/
theorem vN_eq (c : Dev nD) (hf : Finite (karr m c)) (t : Fin cfg0.N) (r : Fin 512) (j : Fin 256) :
    vN m c t (ix2 r j) = vnorm (karr m c) (bat t) (row t r) j := by
  have e : ∀ j : Fin 256, pA m c t (ix2 r ⟨256 + j.val, by omega⟩) = proj (karr m c) (bat t) (row t r) ⟨256 + j.val, by omega⟩ := fun j => pA_eq m c t r ⟨256 + j.val, by omega⟩
  refine (pay23_apply (pA m c t) (iblk m c 9 t) (rd9 m c t) _ _ r (fun j => by rw [e]; exact proj_real hf _ _ j) j).trans ?_
  unfold vnorm
  rw [funext e, funext fun j => rd5 m c t j, funext fun j => rd6 m c t j]

/-- A pair's spatial weights. -/
theorem sw₀_eq (c : Dev nD) (t : Fin cfg0.N) (a : Fin 128) (k : Fin 256) :
    sw₀ m c t (ix3 0 a k) = (karr m c).ws (ix3 ⟨k.val / 128, by omega⟩ a ⟨k.val % 128, Nat.mod_lt _ (by omega)⟩) := by
  have e : sw₀ m c t (ix3 0 a k) = iblk m c 7 t (ix3 0 a k) := by
    refine congrArg (iblk m c 7 t) (funext fun i => ?_)
    fin_cases i
    · exact Fin.ext (by show 0 + 1 * 0 = 0; omega)
    · exact Fin.ext (by show 0 + 1 * a.val = a.val; omega)
    · exact Fin.ext (by show 0 + 1 * k.val = k.val; omega)
  refine e.trans ((rd7 m c t 0 a k).trans ?_)
  exact congrArg (karr m c).ws (congrArg (fun h => ix3 h a _) (Fin.ext (by show 2 * 0 + k.val / 128 = k.val / 128; omega)))

theorem sw₁_eq (c : Dev nD) (t : Fin cfg0.N) (a : Fin 128) (k : Fin 256) :
    sw₁ m c t (ix3 0 a k) = (karr m c).ws (ix3 ⟨2 + k.val / 128, by omega⟩ a ⟨k.val % 128, Nat.mod_lt _ (by omega)⟩) := by
  have e : sw₁ m c t (ix3 0 a k) = iblk m c 7 t (ix3 1 a k) := by
    refine congrArg (iblk m c 7 t) (funext fun i => ?_)
    fin_cases i
    · exact Fin.ext (by show 1 + 1 * 0 = 1; omega)
    · exact Fin.ext (by show 0 + 1 * a.val = a.val; omega)
    · exact Fin.ext (by show 0 + 1 * k.val = k.val; omega)
  refine e.trans ((rd7 m c t 1 a k).trans ?_)
  exact congrArg (karr m c).ws (congrArg (fun h => ix3 h a _) (Fin.ext (by show 2 * 1 + k.val / 128 = 2 + k.val / 128; omega)))

/-- The weights that a lane's head uses. -/
theorem head_w (c : Dev nD) (t : Fin cfg0.N) (a s : Fin 128) (j : Fin 256) :
    (if j.val < 128 then (if j.val < 64 then sw₀ m c t (ix3 0 a ⟨s.val, by omega⟩) else sw₀ m c t (ix3 0 a ⟨128 + s.val, by omega⟩))
      else (if j.val - 128 < 64 then sw₁ m c t (ix3 0 a ⟨s.val, by omega⟩) else sw₁ m c t (ix3 0 a ⟨128 + s.val, by omega⟩)))
      = (karr m c).ws (ix3 ⟨j.val / 64, by omega⟩ a s) := by
  have hs := s.isLt
  by_cases h : j.val < 128
  · rw [if_pos h]
    by_cases h' : j.val < 64
    · rw [if_pos h']
      exact (sw₀_eq m c t a _).trans (congrArg (karr m c).ws (congrArg₂ (fun h k => ix3 h a k) (Fin.ext (by show s.val / 128 = j.val / 64; omega)) (Fin.ext (by show s.val % 128 = s.val; omega))))
    · rw [if_neg h']
      exact (sw₀_eq m c t a _).trans (congrArg (karr m c).ws (congrArg₂ (fun h k => ix3 h a k) (Fin.ext (by show (128 + s.val) / 128 = j.val / 64; omega)) (Fin.ext (by show (128 + s.val) % 128 = s.val; omega))))
  · rw [if_neg h]
    by_cases h' : j.val - 128 < 64
    · rw [if_pos h']
      exact (sw₁_eq m c t a _).trans (congrArg (karr m c).ws (congrArg₂ (fun h k => ix3 h a k) (Fin.ext (by show 2 + s.val / 128 = j.val / 64; omega)) (Fin.ext (by show s.val % 128 = s.val; omega))))
    · rw [if_neg h']
      exact (sw₁_eq m c t a _).trans (congrArg (karr m c).ws (congrArg₂ (fun h k => ix3 h a k) (Fin.ext (by show 2 + (128 + s.val) / 128 = j.val / 64; omega)) (Fin.ext (by show (128 + s.val) % 128 = s.val; omega))))

/-- A chunk's spatial gate. -/
theorem chunk_eq_spat (c : Dev nD) (hf : Finite (karr m c)) (t : Fin cfg0.N) (r : Fin 512) (j : Fin 256) :
    chunk (fun s j => vN m c t (ix2 ⟨r.val / 128 * 128 + s.val, by omega⟩ j)) (sw₀ m c t) (sw₁ m c t) (iblk m c 8 t) ⟨r.val % 128, by omega⟩ j
      = spat (karr m c) (bat t) (row t r) j := by
  have hr : (⟨(row t r).val % 128, by omega⟩ : Fin 128) = ⟨r.val % 128, by omega⟩ := Fin.ext (by show (t.val % 16 * 512 + r.val) % 128 = r.val % 128; omega)
  unfold chunk spat
  rw [hr]
  refine congrArg₂ (fun a b : EReal => a + b) ?_ (rd8 m c t _ j)
  refine congrArg₂ (fun w v => mixS w v (⟨r.val % 128, by omega⟩ : Fin 128)) (funext fun s => head_w m c t _ s j) (funext fun s => ?_)
  refine (vN_eq m c hf t _ j).trans ?_
  exact congrArg (fun T => vnorm (karr m c) (bat t) T j) (Fin.ext (by show t.val % 16 * 512 + (r.val / 128 * 128 + s.val) = (t.val % 16 * 512 + r.val) / 128 * 128 + s.val; omega))

theorem ya_eq (c : Dev nD) (hf : Finite (karr m c)) (t : Fin cfg0.N) (r : Fin 512) (j : Fin 256) :
    (outsAt0 m c t.val t.isLt).1 (ix3 0 r j) = ya (karr m c) (ix3 (bat t) (row t r) j) := by
  refine (congrFun (yaB m c t) _).trans ((pay1_apply (pA m c t) (vN m c t) (sw₀ m c t) (sw₁ m c t) (iblk m c 8 t) r j).trans ?_)
  exact congrArg₂ (fun a b : EReal => a * b) (congrArg silu (pA_eq m c t r ⟨512 + j.val, by omega⟩))
    (congrArg₂ (fun a b : EReal => a * b) (pA_eq m c t r ⟨j.val, by omega⟩) (chunk_eq_spat m c hf t r j))

/-! ### The arrays after the run -/

theorem array_ya (c : Dev nD) (hf : Finite (karr m c)) : (dats m 0 c).arrAt 10 cfg0.N = ya (karr m c) := by
  refine (dats m 0 c).arrAt_eq_of_covers 10 _ (by decide +kernel) fun t _ y => ?_
  obtain ⟨r, j, rfl⟩ : ∃ (r : Fin 512) (j : Fin 256), y = ix3 0 r j := ⟨y 1, y 2, by
    funext a; fin_cases a <;> first | rfl | exact Subsingleton.elim (α := Fin 1) _ _⟩
  have hb := (idx_out t).1
  refine (congrFun (Value.flushed10 m c t) _).trans ?_
  refine Eq.trans (ya_eq m c hf t r j) ?_
  blk_ext [hb, bat, row]

theorem array_xs (c : Dev nD) : (dats m 0 c).arrAt 11 cfg0.N = xs (karr m c) := by
  refine (dats m 0 c).arrAt_eq_of_covers 11 _ (by decide +kernel) fun t _ y => ?_
  obtain ⟨r, j, rfl⟩ : ∃ (r : Fin 512) (j : Fin 1280), y = ix3 0 r j := ⟨y 1, y 2, by
    funext a; fin_cases a <;> first | rfl | exact Subsingleton.elim (α := Fin 1) _ _⟩
  have hb := (idx_out t).2.1
  refine (congrFun (Value.flushed11 m c t) _).trans ?_
  refine Eq.trans (xs_eq m c t r j) ?_
  blk_ext [hb, bat, row]

theorem array_gb (c : Dev nD) : (dats m 0 c).arrAt 12 cfg0.N = gb (karr m c) := by
  refine (dats m 0 c).arrAt_eq_of_covers 12 _ (by decide +kernel) fun t _ y => ?_
  obtain ⟨r, j, rfl⟩ : ∃ (r : Fin 512) (j : Fin 384), y = ix3 0 r j := ⟨y 1, y 2, by
    funext a; fin_cases a <;> first | rfl | exact Subsingleton.elim (α := Fin 1) _ _⟩
  have hb := (idx_out t).2.2.1
  refine (congrFun (Value.flushed12 m c t) _).trans ?_
  refine Eq.trans (gb_eq m c t r j) ?_
  blk_ext [hb, bat, row]

theorem array_gc (c : Dev nD) : (dats m 0 c).arrAt 13 cfg0.N = gc (karr m c) := by
  refine (dats m 0 c).arrAt_eq_of_covers 13 _ (by decide +kernel) fun t _ y => ?_
  obtain ⟨r, j, rfl⟩ : ∃ (r : Fin 512) (j : Fin 384), y = ix3 0 r j := ⟨y 1, y 2, by
    funext a; fin_cases a <;> first | rfl | exact Subsingleton.elim (α := Fin 1) _ _⟩
  have hb := (idx_out t).2.2.2.1
  refine (congrFun (Value.flushed13 m c t) _).trans ?_
  refine Eq.trans (gc_eq m c t r j) ?_
  blk_ext [hb, bat, row]

theorem array_q (c : Dev nD) : (dats m 0 c).arrAt 14 cfg0.N = qc (karr m c) := by
  refine (dats m 0 c).arrAt_eq_of_covers 14 _ (by decide +kernel) fun t _ y => ?_
  obtain ⟨r, j, rfl⟩ : ∃ (r : Fin 512) (j : Fin 384), y = ix3 0 r j := ⟨y 1, y 2, by
    funext a; fin_cases a <;> first | rfl | exact Subsingleton.elim (α := Fin 1) _ _⟩
  have hb := (idx_out t).2.2.2.2.1
  refine (congrFun (Value.flushed14 m c t) _).trans ?_
  refine Eq.trans (q_eq m c t r j) ?_
  blk_ext [hb, bat, row]

theorem array_kv (c : Dev nD) : (dats m 0 c).arrAt 15 cfg0.N = kvc (karr m c) := by
  refine (dats m 0 c).arrAt_eq_of_covers 15 _ (by decide +kernel) fun t _ y => ?_
  obtain ⟨r, j, rfl⟩ : ∃ (r : Fin 512) (j : Fin 768), y = ix3 0 r j := ⟨y 1, y 2, by
    funext a; fin_cases a <;> first | rfl | exact Subsingleton.elim (α := Fin 1) _ _⟩
  have hb := (idx_out t).2.2.2.2.2
  refine (congrFun (Value.flushed15 m c t) _).trans ?_
  refine Eq.trans (kv_eq m c t r j) ?_
  blk_ext [hb, bat, row]

end Cert.Kernel2Ideal.Sgu
-- ==== Proof.SguNumbers.lean ====
/- What the second precondition says: the rows, their modulation and the columns of the normalized half are numbers. -/
module

public import proofs.«01_k».proof.Pre_rows_finite
public import proofs.«01_k».proof.Proof.Numbers
public import proofs.«01_k».proof.Proof.SguSpec

@[expose] public section

set_option maxRecDepth 16384

noncomputable section

namespace Cert.Pre_rows_finite

open Idealize.ShloMosaic Idealize.ShloMosaic.Tactic Idealize.ShloMosaic.Pointwise Cert.Sgu

theorem facts : Facts where
  bcast_S_S8x8192x1024 := by decide
  reducesTo_S8x8192x1024_S_d0_1_2 := by decide
  h_S_ := by decide
  bcast_S_S8x1x1024 := by decide
  reducesTo_S8x1x1024_S_d0_1_2 := by decide
  slices_S1024x3968_S1024x256_0_256 := by decide
  bcast_S_S1024x256 := by decide
  reducesTo_S1024x256_S_d0_1 := by decide

theorem and_both {a b : IVec S_ 1} (h : andi a b = fun _ => 1#1) : (a = fun _ => 1#1) ∧ b = fun _ => 1#1 :=
  ⟨funext fun i => (IntOp.andi_eq_one.1 (congrFun h i)).1, funext fun i => (IntOp.andi_eq_one.1 (congrFun h i)).2⟩

instance : Subsingleton S_.Idx := ⟨fun a b => funext fun i => i.elim0⟩

/-- The numbers that the precondition's four tests find. -/
theorem numbers [Facts] (a : Arr) (h : fn (F := Ideal) a.x a.sc a.sh a.w a.mu a.g a.b a.ws a.bs = fun _ => 1#1) : Finite a := by
  obtain ⟨h123, h4⟩ := and_both h
  obtain ⟨h12, h3⟩ := and_both h123
  obtain ⟨h1, h2⟩ := and_both h12
  refine ⟨fun i => Pre_scores_finite.real_of_lt _ ?_, fun i => Pre_scores_finite.real_of_lt _ ?_, fun i => Pre_scores_finite.real_of_lt _ ?_,
    fun d j => Pre_scores_finite.real_of_lt _ ?_⟩
  · exact Host.reduce_andi_all _ _ _ _ _ (congrFun h1 (fun i => i.elim0)) i
  · exact Host.reduce_andi_all _ _ _ _ _ (congrFun h2 (fun i => i.elim0)) i
  · exact Host.reduce_andi_all _ _ _ _ _ (congrFun h3 (fun i => i.elim0)) i
  · have e : extractStridedSlice S1024x256 ![0, 256] a.w Facts.slices_S1024x3968_S1024x256_0_256 (ix2 d j) = a.w (ix2 d ⟨256 + j.val, by omega⟩) := by
      pointwise
    rw [← e]
    exact Host.reduce_andi_all _ _ _ _ _ (congrFun h4 (fun i => i.elim0)) (ix2 d j)

end Cert.Pre_rows_finite
-- ==== Proof.SguRef.lean ====
/- The reference's six results of the projection call, entry by entry: the layer's intermediate arrays. -/
module

public import Idealize.ShloMosaic.Lib.Pointwise
public import proofs.«01_k».proof.Proof.SguSpec
public import proofs.«01_k».proof.Proof.Gen.Reference2Ideal.Run

@[expose] public section

set_option maxRecDepth 16384
set_option maxHeartbeats 1000000

noncomputable section

namespace Cert.Reference2Ideal.Sgu

open Idealize.ShloMosaic Idealize.ShloMosaic.TcCoe Idealize.ShloMosaic.Tactic Idealize.ShloMosaic.Pointwise Cert.Reference2Ideal Cert.Reference2Ideal.Gen Cert.Sgu

variable (m : (ℓ : Loc nD τ sig) → Buf (Elt Ideal) ℓ)

/-- The reference's arguments, as launched. -/
def rarr (c : Dev nD) : Arr where
  x := m ((c : Thread nD τ).loc main_arg0)
  sc := m ((c : Thread nD τ).loc main_arg1)
  sh := m ((c : Thread nD τ).loc main_arg2)
  w := m ((c : Thread nD τ).loc main_arg3)
  mu := m ((c : Thread nD τ).loc main_arg4)
  g := m ((c : Thread nD τ).loc main_arg5)
  b := m ((c : Thread nD τ).loc main_arg6)
  ws := m ((c : Thread nD τ).loc main_arg7)
  bs := m ((c : Thread nD τ).loc main_arg8)

/-- The projection of the modulated rows. -/
def prj (c : Dev nD) : FVec Ideal S8x8192x3968 .f32 :=
  Host.dotGeneral (φ₁ := .f32) (φ₂ := .f32) dot_S8x8192x1024_S1024x3968_S8x8192x3968_2_0_01_1_n_n none (addf (mulf (m ((c.tc : Thread nD τ).loc main_arg0)) (broadcastInDim S8x8192x1024 ![0, 1, 2] bcast_S8x1x1024_S8x8192x1024_0_1_2 (addf (broadcastInDim S8x1x1024 ![] bcast_S_S8x1x1024 (constant S_ .f32 0x3F800000#32)) (m ((c.tc : Thread nD τ).loc main_arg1))))) (broadcastInDim S8x8192x1024 ![0, 1, 2] bcast_S8x1x1024_S8x8192x1024_0_1_2 (m ((c.tc : Thread nD τ).loc main_arg2)))) (m ((c.tc : Thread nD τ).loc main_arg3))

/-- The half to be normalized, by heads. -/
def vin (c : Dev nD) : FVec Ideal S8x8192x4x64 .f32 :=
  shapeCast S8x8192x4x64 (extractStridedSlice S8x8192x256 ![0, 0, 256] (extractStridedSlice S8x8192x768 ![0, 0, 0] (prj m c) slices_S8x8192x3968_S8x8192x768_0_0_0) slices_S8x8192x768_S8x8192x256_0_0_256) shapeCasts_S8x8192x256_S8x8192x4x64

/-- Its heads' means. -/
def vmean (c : Dev nD) : FVec Ideal S8x8192x4x1 .f32 :=
  Host.divf (broadcastInDim S8x8192x4x1 ![0, 1, 2] bcast_S8x8192x4_S8x8192x4x1_0_1_2 (Host.reduceAdd (vin m c) (constant S_ .f32 0x00000000#32) reducesTo_S8x8192x4x64_S8x8192x4_d3 h_S_)) (broadcastInDim S8x8192x4x1 ![] bcast_S_S8x8192x4x1 (constant S_ .f32 0x42800000#32))

/-- Less its means. -/
def vcen (c : Dev nD) : FVec Ideal S8x8192x4x64 .f32 :=
  subf (vin m c) (broadcastInDim S8x8192x4x64 ![0, 1, 2, 3] bcast_S8x8192x4x1_S8x8192x4x64_0_1_2_3 (vmean m c))

/-- Its heads' variances. -/
def vvar (c : Dev nD) : FVec Ideal S8x8192x4x1 .f32 :=
  Host.divf (broadcastInDim S8x8192x4x1 ![0, 1, 2] bcast_S8x8192x4_S8x8192x4x1_0_1_2 (Host.reduceAdd (mulf (vcen m c) (vcen m c)) (constant S_ .f32 0x00000000#32) reducesTo_S8x8192x4x64_S8x8192x4_d3 h_S_)) (broadcastInDim S8x8192x4x1 ![] bcast_S_S8x8192x4x1 (constant S_ .f32 0x42800000#32))

/-- Normalized. -/
def vnrm (c : Dev nD) : FVec Ideal S8x8192x4x64 .f32 :=
  addf (mulf (mulf (vcen m c) (broadcastInDim S8x8192x4x64 ![0, 1, 2, 3] bcast_S8x8192x4x1_S8x8192x4x64_0_1_2_3 (Host.rsqrt (addf (vvar m c) (broadcastInDim S8x8192x4x1 ![] bcast_S_S8x8192x4x1 (constant S_ .f32 0x3727C5AC#32)))))) (broadcastInDim S8x8192x4x64 ![0, 1, 2, 3] bcast_S1x1x4x64_S8x8192x4x64_0_1_2_3 (broadcastInDim S1x1x4x64 ![2, 3] bcast_S4x64_S1x1x4x64_2_3 (shapeCast _ (m ((c.tc : Thread nD τ).loc main_arg5)) shapeCasts_S256_S4x64)))) (broadcastInDim S8x8192x4x64 ![0, 1, 2, 3] bcast_S1x1x4x64_S8x8192x4x64_0_1_2_3 (broadcastInDim S1x1x4x64 ![2, 3] bcast_S4x64_S1x1x4x64_2_3 (shapeCast _ (m ((c.tc : Thread nD τ).loc main_arg6)) shapeCasts_S256_S4x64)))

/-- The spatial weights on and below the diagonal. -/
def wmk (c : Dev nD) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (m ((c.tc : Thread nD τ).loc main_arg7)) (broadcastInDim S4x128x128 ![] bcast_S_S4x128x128 (constant S_ .f32 0x00000000#32))

/-- The spatial gate, by chunks and heads. -/
def spt (c : Dev nD) : FVec Ideal S8x64x128x4x64 .f32 :=
  addf (transpose S8x64x128x4x64 [1, 2, 4, 0, 3] (Host.dotGeneral dot_S8x64x128x4x64_S4x128x128_S4x8x64x64x128_2_2_014_1_3_0 none (shapeCast _ (vnrm m c) shapeCasts_S8x8192x4x64_S8x64x128x4x64) (wmk m c)) transposes_S4x8x64x64x128_S8x64x128x4x64_1_2_4_0_3) (broadcastInDim S8x64x128x4x64 ![0, 1, 2, 3, 4] bcast_S1x1x128x4x1_S8x64x128x4x64_0_1_2_3_4 (broadcastInDim S1x1x128x4x1 ![2, 3] bcast_S128x4_S1x1x128x4x1_2_3 (transpose S128x4 [1, 0] (m ((c.tc : Thread nD τ).loc main_arg8)) transposes_S4x128_S128x4_1_0)))

/-- The first result, over these. -/
theorem out_ya (c : Dev nD) : Value.res_main_v71 (F := Ideal) m c = truncf .bf16 (mulf (mulf (extractStridedSlice S8x8192x256 ![0, 0, 512] (extractStridedSlice S8x8192x768 ![0, 0, 0] (prj m c) slices_S8x8192x3968_S8x8192x768_0_0_0) slices_S8x8192x768_S8x8192x256_0_0_512) (Host.divf (broadcastInDim S8x8192x256 ![] bcast_S_S8x8192x256 (constant S_ .f32 0x3F800000#32)) (addf (broadcastInDim S8x8192x256 ![] bcast_S_S8x8192x256 (constant S_ .f32 0x3F800000#32)) (Host.exp (Host.negf (extractStridedSlice S8x8192x256 ![0, 0, 512] (extractStridedSlice S8x8192x768 ![0, 0, 0] (prj m c) slices_S8x8192x3968_S8x8192x768_0_0_0) slices_S8x8192x768_S8x8192x256_0_0_512)))))) (mulf (extractStridedSlice S8x8192x256 ![0, 0, 0] (extractStridedSlice S8x8192x768 ![0, 0, 0] (prj m c) slices_S8x8192x3968_S8x8192x768_0_0_0) slices_S8x8192x768_S8x8192x256_0_0_0) (shapeCast _ (spt m c) shapeCasts_S8x64x128x4x64_S8x8192x256))) bitsLt_bf16_f32 := rfl

theorem prj_apply (c : Dev nD) (b : Fin 8) (T : Fin 8192) (j : Fin 3968) : prj m c (ix3 b T j) = proj (rarr m c) b T j := by
  pointwise [prj]
  rfl

theorem vin_apply (c : Dev nD) (b : Fin 8) (T : Fin 8192) (h : Fin 4) (d : Fin 64) :
    vin m c (ix4 b T h d) = proj (rarr m c) b T ⟨256 + (lane h d).val, by omega⟩ := by
  pointwise [vin]
  exact prj_apply m c b T _

theorem vmean_apply (c : Dev nD) (b : Fin 8) (T : Fin 8192) (h : Fin 4) :
    vmean m c (ix4 b T h 0) = mean64 fun d => vin m c (ix4 b T h d) := by
  pointwise [vmean]
  rfl

theorem vcen_apply (c : Dev nD) (b : Fin 8) (T : Fin 8192) (h : Fin 4) (d : Fin 64) :
    vcen m c (ix4 b T h d) = vin m c (ix4 b T h d) - vmean m c (ix4 b T h 0) := by
  pointwise [vcen]

theorem vvar_apply (c : Dev nD) (b : Fin 8) (T : Fin 8192) (h : Fin 4) :
    vvar m c (ix4 b T h 0) = mean64 fun d => vcen m c (ix4 b T h d) * vcen m c (ix4 b T h d) := by
  pointwise [vvar]
  rfl

theorem vnrm_apply (c : Dev nD) (b : Fin 8) (T : Fin 8192) (h : Fin 4) (d : Fin 64) :
    vnrm m c (ix4 b T h d) = vcen m c (ix4 b T h d) * Ideal.rsqrt (vvar m c (ix4 b T h 0) + Ideal.ofBits .f32 925353388#32)
      * (rarr m c).g (ix1 (lane h d)) + (rarr m c).b (ix1 (lane h d)) := by
  pointwise [vnrm]
  rfl

/-- The layer normalization's row, in the order of the 256 lanes. -/
theorem vnrm_row (c : Dev nD) (b : Fin 8) (T : Fin 8192) (h : Fin 4) (d : Fin 64) : vnrm m c (ix4 b T h d) = vnorm (rarr m c) b T (lane h d) := by
  have hh : (⟨(lane h d).val / 64, by omega⟩ : Fin 4) = h := Fin.ext (by show (h.val * 64 + d.val) / 64 = h.val; omega)
  have hc : ∀ d' : Fin 64, vcen m c (ix4 b T h d') = cen (fun j => proj (rarr m c) b T ⟨256 + j.val, by omega⟩) (lane h d') := fun d' => by
    have hd : (⟨(lane h d').val / 64, by omega⟩ : Fin 4) = h := Fin.ext (by show (h.val * 64 + d'.val) / 64 = h.val; omega)
    rw [vcen_apply, vmean_apply, vin_apply, funext fun d => vin_apply m c b T h d]
    unfold cen
    rw [hd]
  rw [vnrm_apply, vvar_apply, funext fun d' => congrArg₂ (fun a b : EReal => a * b) (hc d') (hc d'), hc d]
  unfold vnorm lnh
  rw [hh]

theorem tri_word : ∀ t s : Fin 128, Scalar.select (IntOp.cmpi .sge (IntOp.addi (BitVec.ofNat 32 t.val) 0#32) (BitVec.ofNat 32 s.val)) 1#1 0#1 = BitVec.ofBool (decide (s.val ≤ t.val)) := by
  decide +kernel

theorem tri_value (p : Prop) [Decidable p] (x : EReal) : Scalar.select (BitVec.ofBool (decide p)) x 0 = if p then x else 0 := by
  by_cases h : p
  · rw [if_pos h, decide_eq_true h]
    rfl
  · rw [if_neg h, decide_eq_false h]
    rfl

theorem wmk_apply (c : Dev nD) (h : Fin 4) (t s : Fin 128) :
    wmk m c (ix3 h t s) = if s.val ≤ t.val then (rarr m c).ws (ix3 h t s) else 0 := by
  pointwise [wmk]
  rw [tri_word]
  exact tri_value _ _

theorem spt_apply (c : Dev nD) (b : Fin 8) (n : Fin 64) (t : Fin 128) (h : Fin 4) (d : Fin 64) :
    spt m c (ix5 b n t h d) = (∑ s : Fin 128, vnrm m c (ix4 b ⟨n.val * 128 + s.val, by omega⟩ h d) * wmk m c (ix3 h t s)) + (rarr m c).bs (ix2 h t) := by
  pointwise [spt]
  rfl

theorem ya_out (c : Dev nD) : Value.res_main_v71 (F := Ideal) m c = ya (rarr m c) := by
  rw [out_ya]
  funext i
  idx_vars i
  pointwise
  rw [prj_apply, prj_apply, spt_apply]
  refine congrArg₂ (fun a b : EReal => a * b) rfl (congrArg₂ (fun a b : EReal => a * b) rfl ?_)
  show _ = spat (rarr m c) i0 i1 i2
  unfold spat mixS
  refine congrArg₂ (fun a b : EReal => a + b) (Finset.sum_congr rfl fun s _ => congrArg₂ (fun a b : EReal => a * b) ?_ ?_) rfl
  · refine (vnrm_row m c i0 _ _ _).trans (congrArg (vnorm (rarr m c) i0 _) (Fin.ext ?_))
    show i2.val / 64 * 64 + i2.val % 64 = i2.val
    omega
  · exact wmk_apply m c _ _ s

theorem xs_out (c : Dev nD) : (addf (extractStridedSlice S8x8192x1280 ![0, 0, 0] (extractStridedSlice S8x8192x1664 ![0, 0, 768] (prj m c) slices_S8x8192x3968_S8x8192x1664_0_0_768) slices_S8x8192x1664_S8x8192x1280_0_0_0) (mulf (subf (extractStridedSlice S8x8192x1280 ![0, 0, 0] (pad S8x8193x1280 ![0, 1, 0] ![0, 0, 0] ![0, 0, 0] (extractStridedSlice S8x8192x1280 ![0, 0, 0] (extractStridedSlice S8x8192x1664 ![0, 0, 768] (prj m c) slices_S8x8192x3968_S8x8192x1664_0_0_768) slices_S8x8192x1664_S8x8192x1280_0_0_0) (sitofp .f32 (constantI S_ 32 0#32)) pads_S8x8192x1280_S8x8193x1280_000_100_000 h_S_) slices_S8x8193x1280_S8x8192x1280_0_0_0) (extractStridedSlice S8x8192x1280 ![0, 0, 0] (extractStridedSlice S8x8192x1664 ![0, 0, 768] (prj m c) slices_S8x8192x3968_S8x8192x1664_0_0_768) slices_S8x8192x1664_S8x8192x1280_0_0_0)) (broadcastInDim S8x8192x1280 ![0, 1, 2] bcast_S1x1x1280_S8x8192x1280_0_1_2 (broadcastInDim S1x1x1280 ![2] bcast_S1280_S1x1x1280_2 (m ((c.tc : Thread nD τ).loc main_arg4))))) : FVec Ideal S8x8192x1280 .f32) = xs (rarr m c) := by
  funext i
  idx_vars i
  pointwise
  rw [prj_apply]
  refine congrArg₂ (fun a b : EReal => a + b) rfl (congrArg₂ (fun a b : EReal => a * b) (congrArg (fun a : EReal => a - proj (rarr m c) i0 i1 ⟨768 + i2.val, by omega⟩) ?_) rfl)
  unfold prev
  by_cases h0 : i1.val = 0
  · refine Eq.trans (dif_neg (by omega)) (Eq.trans ?_ (if_pos h0).symm)
    show ((((0#32 : BitVec 32).toInt : ℝ)) : EReal) = 0
    norm_num
  · exact (dif_pos (by omega)).trans ((prj_apply m c i0 _ _).trans (if_neg h0).symm)

theorem gb_out (c : Dev nD) : (mulf (extractStridedSlice S8x8192x384 ![0, 0, 1280] (extractStridedSlice S8x8192x1664 ![0, 0, 768] (prj m c) slices_S8x8192x3968_S8x8192x1664_0_0_768) slices_S8x8192x1664_S8x8192x384_0_0_1280) (Host.divf (broadcastInDim S8x8192x384 ![] bcast_S_S8x8192x384 (constant S_ .f32 0x3F800000#32)) (addf (broadcastInDim S8x8192x384 ![] bcast_S_S8x8192x384 (constant S_ .f32 0x3F800000#32)) (Host.exp (Host.negf (extractStridedSlice S8x8192x384 ![0, 0, 1280] (extractStridedSlice S8x8192x1664 ![0, 0, 768] (prj m c) slices_S8x8192x3968_S8x8192x1664_0_0_768) slices_S8x8192x1664_S8x8192x384_0_0_1280))))) : FVec Ideal S8x8192x384 .f32) = gb (rarr m c) := by
  funext i
  idx_vars i
  pointwise
  rw [prj_apply]
  exact congrArg silu (congrArg (proj (rarr m c) i0 i1) (Fin.ext (by show 768 + (1280 + i2.val) = 2048 + i2.val; omega)))

theorem gc_out (c : Dev nD) : (mulf (extractStridedSlice S8x8192x384 ![0, 0, 1152] (extractStridedSlice S8x8192x1536 ![0, 0, 2432] (prj m c) slices_S8x8192x3968_S8x8192x1536_0_0_2432) slices_S8x8192x1536_S8x8192x384_0_0_1152) (Host.divf (broadcastInDim S8x8192x384 ![] bcast_S_S8x8192x384 (constant S_ .f32 0x3F800000#32)) (addf (broadcastInDim S8x8192x384 ![] bcast_S_S8x8192x384 (constant S_ .f32 0x3F800000#32)) (Host.exp (Host.negf (extractStridedSlice S8x8192x384 ![0, 0, 1152] (extractStridedSlice S8x8192x1536 ![0, 0, 2432] (prj m c) slices_S8x8192x3968_S8x8192x1536_0_0_2432) slices_S8x8192x1536_S8x8192x384_0_0_1152))))) : FVec Ideal S8x8192x384 .f32) = gc (rarr m c) := by
  funext i
  idx_vars i
  pointwise
  rw [prj_apply]
  exact congrArg silu (congrArg (proj (rarr m c) i0 i1) (Fin.ext (by show 2432 + (1152 + i2.val) = 3584 + i2.val; omega)))

theorem q_out (c : Dev nD) : (truncf .bf16 (extractStridedSlice S8x8192x384 ![0, 0, 0] (extractStridedSlice S8x8192x1536 ![0, 0, 2432] (prj m c) slices_S8x8192x3968_S8x8192x1536_0_0_2432) slices_S8x8192x1536_S8x8192x384_0_0_0) bitsLt_bf16_f32 : FVec Ideal S8x8192x384 .bf16) = qc (rarr m c) := by
  funext i
  idx_vars i
  pointwise
  exact prj_apply m c i0 i1 _

theorem kv_out (c : Dev nD) : (truncf .bf16 (concatenate S8x8192x768 2 [⟨S8x8192x384, (extractStridedSlice S8x8192x384 ![0, 0, 384] (extractStridedSlice S8x8192x1536 ![0, 0, 2432] (prj m c) slices_S8x8192x3968_S8x8192x1536_0_0_2432) slices_S8x8192x1536_S8x8192x384_0_0_384)⟩, ⟨S8x8192x384, (extractStridedSlice S8x8192x384 ![0, 0, 768] (extractStridedSlice S8x8192x1536 ![0, 0, 2432] (prj m c) slices_S8x8192x3968_S8x8192x1536_0_0_2432) slices_S8x8192x1536_S8x8192x384_0_0_768)⟩] concatenates_S8x8192x384_S8x8192x384_S8x8192x768_d2) bitsLt_bf16_f32 : FVec Ideal S8x8192x768 .bf16) = kvc (rarr m c) := by
  funext i
  idx_vars i
  pointwise
  by_cases h : i2.val < 384
  · rw [dif_pos h, prj_apply]
    exact congrArg (proj (rarr m c) i0 i1) (Fin.ext (by show 2432 + (384 + i2.val) = 2816 + i2.val; omega))
  · rw [dif_neg h, prj_apply]
    exact congrArg (proj (rarr m c) i0 i1) (Fin.ext (by show 2432 + (768 + (i2.val - 384)) = 2816 + i2.val; omega))

end Cert.Reference2Ideal.Sgu
-- ==== Proof.lean ====
/- The claims about the layer's four calls, put together. The attention call: the kernel's array is the layer's attention result
   (`Proof/Array.lean`), and so is the reference's (`Proof/RefValue.lean`) where the precondition makes the scores numbers
   (`Proof/Numbers.lean`). The projection call: the kernel's six arrays are the layer's intermediate arrays where the
   precondition makes the normalized rows numbers (`Proof/SguArray.lean`, `Proof/SguNumbers.lean`), and the reference's six
   results are the same arrays (`Proof/SguRef.lean`). The modulation call: both arrays are one function (`Proof/Mod.lean`).
   The RWKV-7 call: it runs without fault, and its arguments end unchanged. -/
module

public import proofs.«01_k».proof.Defs
public import proofs.«01_k».proof.Proof.Array
public import proofs.«01_k».proof.Proof.Numbers
public import proofs.«01_k».proof.Proof.RefValue
public import proofs.«01_k».proof.Proof.Mod
public import proofs.«01_k».proof.Proof.SguArray
public import proofs.«01_k».proof.Proof.SguNumbers
public import proofs.«01_k».proof.Proof.SguRef
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs' results are the layer's attention result of the same arguments. -/
theorem algebraic_KernelIdeal_ReferenceIdeal (hP : Cert.Pre_scores_finite.Facts) :
    algebraic_KernelIdeal_ReferenceIdeal_pre_scores_finite (hPre_scores_finite := hP) := by
  intro m ρ m' ρ' hpre hagree
  refine ⟨fun c => Cert.Att.result (Cert.KernelIdeal.Att.karr m c), ?_, ?_⟩
  · exact (θ_run Cert.KernelIdeal.defs _ _).mono (fun _ h c => ⟨(h c).1.trans (Cert.KernelIdeal.Att.array m c), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    have e : Cert.ReferenceIdeal.Att.arr (fun b => m' (c, b)) = Cert.KernelIdeal.Att.karr m c := by
      obtain ⟨h0, h1, h2, h3, h4, h5, h6, h7, h8, h9, h10⟩ := hagree c
      simp only [Cert.ReferenceIdeal.Att.arr, Cert.KernelIdeal.Att.karr, Cert.Att.Arr.mk.injEq]
      exact ⟨h0, h1, h2, h3, h4, h5, h6, h7, h8, h9, h10⟩
    have hf : Cert.Att.Finite (Cert.KernelIdeal.Att.karr m c).q (Cert.KernelIdeal.Att.karr m c).kv (Cert.KernelIdeal.Att.karr m c).rel :=
      Cert.Pre_scores_finite.numbers _ _ _ _ _ _ _ _ _ _ _ (hpre c)
    rw [← e] at hf
    exact (Cert.ReferenceIdeal.Att.out_ap (fun b => m' (c, b)) hf).trans (congrArg Cert.Att.result e)

theorem quiescent_Reference2Ideal : quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- Both programs' six results are the layer's intermediate arrays of the same arguments. -/
theorem algebraic_Kernel2Ideal_Reference2Ideal (hP : Cert.Pre_rows_finite.Facts) :
    algebraic_Kernel2Ideal_Reference2Ideal_pre_rows_finite (hPre_rows_finite := hP) := by
  intro m ρ m' ρ' hpre hagree
  refine ⟨fun c => Cert.Sgu.ya (Cert.Kernel2Ideal.Sgu.karr m c), fun c => Cert.Sgu.xs (Cert.Kernel2Ideal.Sgu.karr m c),
    fun c => Cert.Sgu.gb (Cert.Kernel2Ideal.Sgu.karr m c), fun c => Cert.Sgu.gc (Cert.Kernel2Ideal.Sgu.karr m c),
    fun c => Cert.Sgu.qc (Cert.Kernel2Ideal.Sgu.karr m c), fun c => Cert.Sgu.kvc (Cert.Kernel2Ideal.Sgu.karr m c), ?_, ?_⟩
  · refine (θ_run Cert.Kernel2Ideal.defs _ _).mono (fun _ h c => ?_) (Cert.Kernel2Ideal.Value.run_blocks (F := Ideal) m ρ)
    have hf : Cert.Sgu.Finite (Cert.Kernel2Ideal.Sgu.karr m c) := Cert.Pre_rows_finite.numbers (Cert.Kernel2Ideal.Sgu.karr m c) (hpre c)
    obtain ⟨h0, h1, h2, h3, h4, h5, h6⟩ := h c
    exact ⟨h0.trans (Cert.Kernel2Ideal.Sgu.array_ya m c hf), h1.trans (Cert.Kernel2Ideal.Sgu.array_xs m c), h2.trans (Cert.Kernel2Ideal.Sgu.array_gb m c),
      h3.trans (Cert.Kernel2Ideal.Sgu.array_gc m c), h4.trans (Cert.Kernel2Ideal.Sgu.array_q m c), h5.trans (Cert.Kernel2Ideal.Sgu.array_kv m c), h6⟩
  · refine (θ_run Cert.Reference2Ideal.defs _ _).mono (fun _ h c => ?_) (Cert.Reference2Ideal.Value.run (F := Ideal) m' ρ')
    have e : Cert.Reference2Ideal.Sgu.rarr m' c = Cert.Kernel2Ideal.Sgu.karr m c := by
      obtain ⟨h0, h1, h2, h3, h4, h5, h6, h7, h8⟩ := hagree c
      simp only [Cert.Reference2Ideal.Sgu.rarr, Cert.Kernel2Ideal.Sgu.karr, Cert.Sgu.Arr.mk.injEq]
      exact ⟨h0, h1, h2, h3, h4, h5, h6, h7, h8⟩
    obtain ⟨h0, h1, h2, h3, h4, h5, h6⟩ := h c
    exact ⟨h0.trans ((Cert.Reference2Ideal.Sgu.ya_out m' c).trans (congrArg Cert.Sgu.ya e)), h1.trans ((Cert.Reference2Ideal.Sgu.xs_out m' c).trans (congrArg Cert.Sgu.xs e)),
      h2.trans ((Cert.Reference2Ideal.Sgu.gb_out m' c).trans (congrArg Cert.Sgu.gb e)), h3.trans ((Cert.Reference2Ideal.Sgu.gc_out m' c).trans (congrArg Cert.Sgu.gc e)),
      h4.trans ((Cert.Reference2Ideal.Sgu.q_out m' c).trans (congrArg Cert.Sgu.qc e)), h5.trans ((Cert.Reference2Ideal.Sgu.kv_out m' c).trans (congrArg Cert.Sgu.kvc e)), h6⟩

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both programs' results are the modulation of the same arguments. -/
theorem algebraic_Kernel3Ideal_Reference3Ideal : algebraic_Kernel3Ideal_Reference3Ideal := by
  intro m ρ m' ρ' _ hagree
  refine ⟨fun c => _, (θ_run Cert.Kernel3Ideal.defs _ _).mono (fun _ h c => ⟨(h c).1.trans (Cert.Kernel3Ideal.Ada.array m c), (h c).2⟩)
      (Cert.Kernel3Ideal.Value.run_blocks (F := Ideal) m ρ), ?_⟩
  refine (θ_run Cert.Reference3Ideal.defs _ _).mono (fun _ h c => ⟨(h c).1.trans ?_, (h c).2⟩) (Cert.Reference3Ideal.Value.run (F := Ideal) m' ρ')
  obtain ⟨h0, h1, h2⟩ := hagree c
  refine (Cert.Reference3Ideal.Ada.out m' c).trans ?_
  rw [h0, h1, h2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts,
  Cert.Pre_scores_finite.facts, Cert.Pre_rows_finite.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, fun m ρ _ => Cert.Kernel2Ideal.Gen.frame m ρ,
  quiescent_Reference2Ideal, fun m ρ _ => quiescent_Reference2Ideal m ρ trivial,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ,
  (trivial : preserves_Kernel_KernelIdeal), algebraic_KernelIdeal_ReferenceIdeal Cert.Pre_scores_finite.facts,
  (trivial : preserves_Kernel2_Kernel2Ideal), algebraic_Kernel2Ideal_Reference2Ideal Cert.Pre_rows_finite.facts,
  (trivial : preserves_Kernel3_Kernel3Ideal), algebraic_Kernel3Ideal_Reference3Ideal,
  (trivial : preserves_Kernel4_Kernel4Ideal)⟩

end Cert.Proof

end
